-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_points [hPre_finite_points : Cert.Pre_finite_points.Facts] (m : (ℓ : Loc Cert.KernelIdeal.nD Cert.KernelIdeal.τ Cert.KernelIdeal.sig) → Buf (Elt Ideal) ℓ) : Prop :=
  ∀ c : Dev Cert.KernelIdeal.nD,
    (Cert.Pre_finite_points.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_points [hPre_finite_points : Cert.Pre_finite_points.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_points.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_points [hKernelIdeal : Cert.KernelIdeal.Facts] [hPre_finite_points : Cert.Pre_finite_points.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_points m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_points [hReferenceIdeal : Cert.ReferenceIdeal.Facts] [hPre_finite_points : Cert.Pre_finite_points.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_points m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite_points [hKernelIdeal : Cert.KernelIdeal.Facts] [hReferenceIdeal : Cert.ReferenceIdeal.Facts] [hPre_finite_points : Cert.Pre_finite_points.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_points m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_points : Cert.Pre_finite_points.Facts),
    quiescent_Kernel (hKernel := hKernel)
    ∧ quiescent_KernelIdeal (hKernelIdeal := hKernelIdeal)
    ∧ quiescent_KernelIdeal_pre_finite_points (hKernelIdeal := hKernelIdeal) (hPre_finite_points := hPre_finite_points)
    ∧ quiescent_ReferenceIdeal (hReferenceIdeal := hReferenceIdeal)
    ∧ quiescent_ReferenceIdeal_pre_finite_points (hReferenceIdeal := hReferenceIdeal) (hPre_finite_points := hPre_finite_points)
    ∧ preserves_Kernel_KernelIdeal
    ∧ algebraic_KernelIdeal_ReferenceIdeal_pre_finite_points (hKernelIdeal := hKernelIdeal) (hReferenceIdeal := hReferenceIdeal) (hPre_finite_points := hPre_finite_points)
-- ==== Pre_finite_points.lean ====
abbrev S4x4096x32x3 : Shape := ⟨4, ![4, 4096, 32, 3]⟩
abbrev S4x192 : Shape := ⟨2, ![4, 192]⟩
abbrev S194x64 : Shape := ⟨2, ![194, 64]⟩
abbrev S64 : Shape := ⟨1, ![64]⟩
abbrev S64x10 : Shape := ⟨2, ![64, 10]⟩
abbrev S10 : Shape := ⟨1, ![10]⟩
abbrev S4x4096x32x1 : Shape := ⟨4, ![4, 4096, 32, 1]⟩
abbrev S4x4096x32 : Shape := ⟨3, ![4, 4096, 32]⟩
abbrev S_ : Shape := ⟨0, ![]⟩

class Facts : Prop where
  slices_S4x4096x32x3_S4x4096x32x1_0_0_0_2 : S4x4096x32x3.Slices ![0, 0, 0, 2] S4x4096x32x1
  shapeCasts_S4x4096x32x1_S4x4096x32 : S4x4096x32x1.ShapeCasts S4x4096x32
  bcast_S_S4x4096x32 : S_.BroadcastsInDim S4x4096x32 (![] : Fin 0 → Fin S4x4096x32.rank)
  reducesTo_S4x4096x32_S_d0_1_2 : S4x4096x32.ReducesTo [0, 1, 2] S_
  h_S_ : 0 < S_.numel

variable [Facts]

def fn {F : FTy → Type} [FloatOps F] (main_arg0 : FVec F S4x4096x32x3 .f32) (main_arg1 : FVec F S4x192 .f32) (main_arg2 : FVec F S194x64 .f32) (main_arg3 : FVec F S64 .f32) (main_arg4 : FVec F S64x10 .f32) (main_arg5 : FVec F S10 .f32) : IVec S_ 1 :=
  let main_v0 : FVec F S4x4096x32x1 .f32 := (extractStridedSlice S4x4096x32x1 ![0, 0, 0, 2] · slices_S4x4096x32x3_S4x4096x32x1_0_0_0_2) main_arg0
  let main_v1 : FVec F S4x4096x32 .f32 := shapeCast S4x4096x32 main_v0 shapeCasts_S4x4096x32x1_S4x4096x32
  let main_v2 : FVec F S4x4096x32 .f32 := Host.absf main_v1
  let main_cst : FVec F S_ .f32 := constant S_ .f32 0x7F800000#32
  let main_v3 : FVec F S4x4096x32 .f32 := broadcastInDim S4x4096x32 ![] bcast_S_S4x4096x32 main_cst
  let main_v4 : IVec S4x4096x32 1 := cmpf .olt main_v2 main_v3
  let main_c : IVec S_ 1 := constantI S_ 1 1#1
  let main_v5 : IVec S_ 1 := (fun x v => Host.reduce IntOp.andi x v reducesTo_S4x4096x32_S_d0_1_2 h_S_) main_v4 main_c
  main_v5
-- ==== Kernel.lean ====
abbrev S4x4096x32x3 : Shape := ⟨4, ![4, 4096, 32, 3]⟩
abbrev S4x192 : Shape := ⟨2, ![4, 192]⟩
abbrev S194x64 : Shape := ⟨2, ![194, 64]⟩
abbrev S64 : Shape := ⟨1, ![64]⟩
abbrev S64x10 : Shape := ⟨2, ![64, 10]⟩
abbrev S10 : Shape := ⟨1, ![10]⟩
abbrev S4x3x4096x32 : Shape := ⟨4, ![4, 3, 4096, 32]⟩
abbrev S4x3x8x16384 : Shape := ⟨4, ![4, 3, 8, 16384]⟩
abbrev S8x8 : Shape := ⟨2, ![8, 8]⟩
abbrev S_ : Shape := ⟨0, ![]⟩
abbrev S2x64 : Shape := ⟨2, ![2, 64]⟩
abbrev S64x2 : Shape := ⟨2, ![64, 2]⟩
abbrev S64x1x2x1 : Shape := ⟨4, ![64, 1, 2, 1]⟩
abbrev S1x8x1x8 : Shape := ⟨4, ![1, 8, 1, 8]⟩
abbrev S64x8x2x8 : Shape := ⟨4, ![64, 8, 2, 8]⟩
abbrev S512x16 : Shape := ⟨2, ![512, 16]⟩
abbrev S10x64 : Shape := ⟨2, ![10, 64]⟩
abbrev S10x1x64x1 : Shape := ⟨4, ![10, 1, 64, 1]⟩
abbrev S10x8x64x8 : Shape := ⟨4, ![10, 8, 64, 8]⟩
abbrev S80x512 : Shape := ⟨2, ![80, 512]⟩
abbrev S64x64 : Shape := ⟨2, ![64, 64]⟩
abbrev S64x8x64 : Shape := ⟨3, ![64, 8, 64]⟩
abbrev S512x64 : Shape := ⟨2, ![512, 64]⟩
abbrev S10x8 : Shape := ⟨2, ![10, 8]⟩
abbrev S80 : Shape := ⟨1, ![80]⟩
abbrev S80x1 : Shape := ⟨2, ![80, 1]⟩
abbrev S4x1x192 : Shape := ⟨3, ![4, 1, 192]⟩
abbrev S192x64 : Shape := ⟨2, ![192, 64]⟩
abbrev S64x1 : Shape := ⟨2, ![64, 1]⟩
abbrev S4x8x16384 : Shape := ⟨3, ![4, 8, 16384]⟩
abbrev S1x3x8x8192 : Shape := ⟨4, ![1, 3, 8, 8192]⟩
abbrev S1x1x192 : Shape := ⟨3, ![1, 1, 192]⟩
abbrev S1x8x8192 : Shape := ⟨3, ![1, 8, 8192]⟩
abbrev S512x1 : Shape := ⟨2, ![512, 1]⟩
abbrev S1x192 : Shape := ⟨2, ![1, 192]⟩
abbrev S3x8x8192 : Shape := ⟨3, ![3, 8, 8192]⟩
abbrev S2x8x8192 : Shape := ⟨3, ![2, 8, 8192]⟩
abbrev S16x8192 : Shape := ⟨2, ![16, 8192]⟩
abbrev S8x8192 : Shape := ⟨2, ![8, 8192]⟩
abbrev S512x8192 : Shape := ⟨2, ![512, 8192]⟩
abbrev S80x8192 : Shape := ⟨2, ![80, 8192]⟩
abbrev S4x4096x32 : Shape := ⟨3, ![4, 4096, 32]⟩
abbrev S1 : Shape := ⟨1, ![1]⟩

abbrev nBuf : Space → Nat
  | .hbm => 52
  | .vmem => 13
  | .smem => 0
  | _ => 0

abbrev bufTy : (tb : Table) → Fin (tcTables nBuf tb) → BufTy
  | .hbm, ⟨0, _⟩ => ⟨S4x4096x32x3, .f32⟩
  | .hbm, ⟨1, _⟩ => ⟨S4x192, .f32⟩
  | .hbm, ⟨2, _⟩ => ⟨S194x64, .f32⟩
  | .hbm, ⟨3, _⟩ => ⟨S64, .f32⟩
  | .hbm, ⟨4, _⟩ => ⟨S64x10, .f32⟩
  | .hbm, ⟨5, _⟩ => ⟨S10, .f32⟩
  | .hbm, ⟨6, _⟩ => ⟨S4x3x4096x32, .f32⟩
  | .hbm, ⟨7, _⟩ => ⟨S4x3x8x16384, .f32⟩
  | .hbm, ⟨8, _⟩ => ⟨S8x8, .i32⟩
  | .hbm, ⟨9, _⟩ => ⟨S8x8, .i32⟩
  | .hbm, ⟨10, _⟩ => ⟨S_, .i32⟩
  | .hbm, ⟨11, _⟩ => ⟨S8x8, .i32⟩
  | .hbm, ⟨12, _⟩ => ⟨S8x8, .i32⟩
  | .hbm, ⟨13, _⟩ => ⟨S8x8, .i1⟩
  | .hbm, ⟨14, _⟩ => ⟨S8x8, .f32⟩
  | .hbm, ⟨15, _⟩ => ⟨S2x64, .f32⟩
  | .hbm, ⟨16, _⟩ => ⟨S64x2, .f32⟩
  | .hbm, ⟨17, _⟩ => ⟨S64x1x2x1, .f32⟩
  | .hbm, ⟨18, _⟩ => ⟨S1x8x1x8, .f32⟩
  | .hbm, ⟨19, _⟩ => ⟨S64x8x2x8, .f32⟩
  | .hbm, ⟨20, _⟩ => ⟨S64x8x2x8, .f32⟩
  | .hbm, ⟨21, _⟩ => ⟨S64x8x2x8, .f32⟩
  | .hbm, ⟨22, _⟩ => ⟨S512x16, .f32⟩
  | .hbm, ⟨23, _⟩ => ⟨S512x16, .bf16⟩
  | .hbm, ⟨24, _⟩ => ⟨S10x64, .f32⟩
  | .hbm, ⟨25, _⟩ => ⟨S10x1x64x1, .f32⟩
  | .hbm, ⟨26, _⟩ => ⟨S1x8x1x8, .f32⟩
  | .hbm, ⟨27, _⟩ => ⟨S10x8x64x8, .f32⟩
  | .hbm, ⟨28, _⟩ => ⟨S10x8x64x8, .f32⟩
  | .hbm, ⟨29, _⟩ => ⟨S10x8x64x8, .f32⟩
  | .hbm, ⟨30, _⟩ => ⟨S80x512, .f32⟩
  | .hbm, ⟨31, _⟩ => ⟨S80x512, .bf16⟩
  | .hbm, ⟨32, _⟩ => ⟨S64x64, .i32⟩
  | .hbm, ⟨33, _⟩ => ⟨S64x64, .i32⟩
  | .hbm, ⟨34, _⟩ => ⟨S_, .i32⟩
  | .hbm, ⟨35, _⟩ => ⟨S64x64, .i32⟩
  | .hbm, ⟨36, _⟩ => ⟨S64x64, .i32⟩
  | .hbm, ⟨37, _⟩ => ⟨S64x64, .i1⟩
  | .hbm, ⟨38, _⟩ => ⟨S64x64, .f32⟩
  | .hbm, ⟨39, _⟩ => ⟨S64x8x64, .f32⟩
  | .hbm, ⟨40, _⟩ => ⟨S512x64, .f32⟩
  | .hbm, ⟨41, _⟩ => ⟨S10x8, .f32⟩
  | .hbm, ⟨42, _⟩ => ⟨S80, .f32⟩
  | .hbm, ⟨43, _⟩ => ⟨S80x1, .f32⟩
  | .hbm, ⟨44, _⟩ => ⟨S4x1x192, .f32⟩
  | .hbm, ⟨45, _⟩ => ⟨S192x64, .f32⟩
  | .hbm, ⟨46, _⟩ => ⟨S64x1, .f32⟩
  | .hbm, ⟨47, _⟩ => ⟨S4x8x16384, .f32⟩
  | .hbm, ⟨48, _⟩ => ⟨S4x4096x32, .f32⟩
  | .hbm, ⟨49, _⟩ => ⟨S_, .i32⟩
  | .hbm, ⟨50, _⟩ => ⟨S1, .i32⟩
  | .hbm, ⟨51, _⟩ => ⟨S4x4096x32x3, .f32⟩
  | .local _ .vmem, ⟨0, _⟩ => ⟨S1x3x8x8192, .f32⟩
  | .local _ .vmem, ⟨1, _⟩ => ⟨S1x3x8x8192, .f32⟩
  | .local _ .vmem, ⟨2, _⟩ => ⟨S1x1x192, .f32⟩
  | .local _ .vmem, ⟨3, _⟩ => ⟨S1x1x192, .f32⟩
  | .local _ .vmem, ⟨4, _⟩ => ⟨S192x64, .f32⟩
  | .local _ .vmem, ⟨5, _⟩ => ⟨S64x1, .f32⟩
  | .local _ .vmem, ⟨6, _⟩ => ⟨S512x64, .f32⟩
  | .local _ .vmem, ⟨7, _⟩ => ⟨S512x16, .bf16⟩
  | .local _ .vmem, ⟨8, _⟩ => ⟨S80x512, .bf16⟩
  | .local _ .vmem, ⟨9, _⟩ => ⟨S80x1, .f32⟩
  | .local _ .vmem, ⟨10, _⟩ => ⟨S1x8x8192, .f32⟩
  | .local _ .vmem, ⟨11, _⟩ => ⟨S1x8x8192, .f32⟩
  | .local _ .vmem, ⟨12, _⟩ => ⟨S512x1, .f32⟩
  | _, _ => ⟨S4x4096x32x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_c_0 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_1 : Ref sig .tc := ⟨.hbm, 49, rfl⟩
abbrev main_v31 : Ref sig .tc := ⟨.hbm, 50, rfl⟩
abbrev main_v32 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨2, ![4, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x3x8x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S192x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x16 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S80x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S80x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x8x8192 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S4x4096x32x3 : Shape := ⟨4, ![4, 4096, 32, 3]⟩
abbrev S4x192 : Shape := ⟨2, ![4, 192]⟩
abbrev S194x64 : Shape := ⟨2, ![194, 64]⟩
abbrev S64 : Shape := ⟨1, ![64]⟩
abbrev S64x10 : Shape := ⟨2, ![64, 10]⟩
abbrev S10 : Shape := ⟨1, ![10]⟩
abbrev S3 : Shape := ⟨1, ![3]⟩
abbrev S4x4096x32x2 : Shape := ⟨4, ![4, 4096, 32, 2]⟩
abbrev S4x1x1x192 : Shape := ⟨4, ![4, 1, 1, 192]⟩
abbrev S4x4096x32x192 : Shape := ⟨4, ![4, 4096, 32, 192]⟩
abbrev S4x4096x32x194 : Shape := ⟨4, ![4, 4096, 32, 194]⟩
abbrev S4x4096x32x64 : Shape := ⟨4, ![4, 4096, 32, 64]⟩
abbrev S1x1x1x64 : Shape := ⟨4, ![1, 1, 1, 64]⟩
abbrev S_ : Shape := ⟨0, ![]⟩
abbrev S4x4096x32x10 : Shape := ⟨4, ![4, 4096, 32, 10]⟩
abbrev S1x1x1x10 : Shape := ⟨4, ![1, 1, 1, 10]⟩
abbrev S4x4096x32x1 : Shape := ⟨4, ![4, 4096, 32, 1]⟩
abbrev S4x4096x32x6 : Shape := ⟨4, ![4, 4096, 32, 6]⟩
abbrev S524288x1 : Shape := ⟨2, ![524288, 1]⟩
abbrev S524288x6 : Shape := ⟨2, ![524288, 6]⟩
abbrev S524288x5 : Shape := ⟨2, ![524288, 5]⟩
abbrev S524288 : Shape := ⟨1, ![524288]⟩
abbrev S524288x1x1 : Shape := ⟨3, ![524288, 1, 1]⟩
abbrev S1 : Shape := ⟨1, ![1]⟩
abbrev S1x1x1 : Shape := ⟨3, ![1, 1, 1]⟩
abbrev S4x4096x32 : Shape := ⟨3, ![4, 4096, 32]⟩
abbrev S1x1x1x3 : Shape := ⟨4, ![1, 1, 1, 3]⟩

abbrev nBuf : Space → Nat
  | .hbm => 220
  | .vmem => 0
  | .smem => 0
  | _ => 0

abbrev hbmTy0_0 (i : Nat) : BufTy := match i % 128 with
  | 0 => ⟨S4x4096x32x3, .f32⟩
  | 1 => ⟨S4x192, .f32⟩
  | 2 => ⟨S194x64, .f32⟩
  | 3 => ⟨S64, .f32⟩
  | 4 => ⟨S64x10, .f32⟩
  | 5 => ⟨S10, .f32⟩
  | 6 => ⟨S3, .f32⟩
  | 7 => ⟨S4x4096x32x2, .f32⟩
  | 8 => ⟨S4x4096x32x2, .f32⟩
  | 9 => ⟨S4x1x1x192, .f32⟩
  | 10 => ⟨S4x4096x32x192, .f32⟩
  | 11 => ⟨S4x4096x32x194, .f32⟩
  | 12 => ⟨S4x4096x32x64, .f32⟩
  | 13 => ⟨S1x1x1x64, .f32⟩
  | 14 => ⟨S4x4096x32x64, .f32⟩
  | 15 => ⟨S4x4096x32x64, .f32⟩
  | 16 => ⟨S_, .f32⟩
  | 17 => ⟨S4x4096x32x64, .f32⟩
  | 18 => ⟨S4x4096x32x64, .f32⟩
  | 19 => ⟨S4x4096x32x10, .f32⟩
  | 20 => ⟨S1x1x1x10, .f32⟩
  | 21 => ⟨S4x4096x32x10, .f32⟩
  | 22 => ⟨S4x4096x32x10, .f32⟩
  | 23 => ⟨S_, .f32⟩
  | 24 => ⟨S4x4096x32x10, .f32⟩
  | 25 => ⟨S4x4096x32x10, .f32⟩
  | 26 => ⟨S4x4096x32x10, .f32⟩
  | 27 => ⟨S4x4096x32x10, .f32⟩
  | 28 => ⟨S4x4096x32x10, .i1⟩
  | 29 => ⟨S4x4096x32x10, .f32⟩
  | 30 => ⟨S4x4096x32x10, .f32⟩
  | 31 => ⟨S4x4096x32x10, .f32⟩
  | 32 => ⟨S4x4096x32x10, .f32⟩
  | 33 => ⟨S4x4096x32x10, .f32⟩
  | 34 => ⟨S4x4096x32x10, .f32⟩
  | 35 => ⟨S4x4096x32x10, .f32⟩
  | 36 => ⟨S4x4096x32x10, .f32⟩
  | 37 => ⟨S_, .f32⟩
  | 38 => ⟨S4x4096x32x10, .f32⟩
  | 39 => ⟨S4x4096x32x10, .f32⟩
  | 40 => ⟨S4x4096x32x1, .f32⟩
  | 41 => ⟨S4x4096x32x1, .f32⟩
  | 42 => ⟨S4x4096x32x1, .f32⟩
  | 43 => ⟨S4x4096x32x1, .f32⟩
  | 44 => ⟨S4x4096x32x1, .f32⟩
  | 45 => ⟨S4x4096x32x1, .f32⟩
  | 46 => ⟨S4x4096x32x1, .f32⟩
  | 47 => ⟨S4x4096x32x1, .f32⟩
  | 48 => ⟨S4x4096x32x1, .f32⟩
  | 49 => ⟨S4x4096x32x1, .f32⟩
  | 50 => ⟨S_, .f32⟩
  | 51 => ⟨S4x4096x32x1, .f32⟩
  | 52 => ⟨S4x4096x32x1, .f32⟩
  | 53 => ⟨S_, .f32⟩
  | 54 => ⟨S4x4096x32x1, .f32⟩
  | 55 => ⟨S4x4096x32x1, .f32⟩
  | 56 => ⟨S4x4096x32x1, .f32⟩
  | 57 => ⟨S4x4096x32x1, .f32⟩
  | 58 => ⟨S4x4096x32x1, .f32⟩
  | 59 => ⟨S4x4096x32x1, .f32⟩
  | 60 => ⟨S4x4096x32x1, .f32⟩
  | 61 => ⟨S4x4096x32x1, .f32⟩
  | 62 => ⟨S4x4096x32x1, .f32⟩
  | 63 => ⟨S4x4096x32x1, .f32⟩
  | 64 => ⟨S_, .f32⟩
  | 65 => ⟨S4x4096x32x1, .f32⟩
  | 66 => ⟨S4x4096x32x1, .f32⟩
  | 67 => ⟨S_, .f32⟩
  | 68 => ⟨S4x4096x32x1, .f32⟩
  | 69 => ⟨S4x4096x32x1, .f32⟩
  | 70 => ⟨S_, .f32⟩
  | 71 => ⟨S4x4096x32x1, .f32⟩
  | 72 => ⟨S4x4096x32x1, .f32⟩
  | 73 => ⟨S4x4096x32x1, .f32⟩
  | 74 => ⟨S_, .f32⟩
  | 75 => ⟨S4x4096x32x1, .f32⟩
  | 76 => ⟨S4x4096x32x1, .f32⟩
  | 77 => ⟨S4x4096x32x1, .f32⟩
  | 78 => ⟨S4x4096x32x6, .f32⟩
  | 79 => ⟨S4x4096x32x6, .f32⟩
  | 80 => ⟨S4x4096x32x1, .f32⟩
  | 81 => ⟨S524288x1, .f32⟩
  | 82 => ⟨S524288x6, .f32⟩
  | 83 => ⟨S524288x6, .f32⟩
  | 84 => ⟨S524288x5, .f32⟩
  | 85 => ⟨S524288x5, .f32⟩
  | 86 => ⟨S524288x5, .f32⟩
  | 87 => ⟨S524288x5, .f32⟩
  | 88 => ⟨S524288x1, .f32⟩
  | 89 => ⟨S_, .f32⟩
  | 90 => ⟨S524288x1, .f32⟩
  | 91 => ⟨S524288x1, .f32⟩
  | 92 => ⟨S524288x1, .f32⟩
  | 93 => ⟨S_, .f32⟩
  | 94 => ⟨S524288x1, .f32⟩
  | 95 => ⟨S524288x1, .f32⟩
  | 96 => ⟨S524288x1, .f32⟩
  | 97 => ⟨S524288x1, .f32⟩
  | 98 => ⟨S524288x1, .f32⟩
  | 99 => ⟨S524288x1, .f32⟩
  | 100 => ⟨S524288x5, .f32⟩
  | 101 => ⟨S524288x5, .i1⟩
  | 102 => ⟨S524288x5, .f32⟩
  | 103 => ⟨S524288x5, .i1⟩
  | 104 => ⟨S524288x5, .i1⟩
  | 105 => ⟨S524288x5, .i32⟩
  | 106 => ⟨S_, .i1⟩
  | 107 => ⟨S_, .i32⟩
  | 108 => ⟨S524288, .i1⟩
  | 109 => ⟨S524288, .i32⟩
  | 110 => ⟨S524288x1, .i32⟩
  | 111 => ⟨S_, .i32⟩
  | 112 => ⟨S524288x1, .i32⟩
  | 113 => ⟨S524288x1, .i1⟩
  | 114 => ⟨S_, .i32⟩
  | 115 => ⟨S524288x1, .i32⟩
  | 116 => ⟨S524288x1, .i32⟩
  | 117 => ⟨S524288x1, .i32⟩
  | 118 => ⟨S524288x1x1, .i32⟩
  | 119 => ⟨S1, .i32⟩
  | 120 => ⟨S_, .i32⟩
  | 121 => ⟨S524288x1x1, .i32⟩
  | 122 => ⟨S524288x1x1, .i1⟩
  | 123 => ⟨S1x1x1, .i32⟩
  | 124 => ⟨S524288x1x1, .i32⟩
  | 125 => ⟨S524288x1x1, .i1⟩
  | 126 => ⟨S524288x1x1, .i1⟩
  | 127 => ⟨S_, .i1⟩
  | _ => ⟨S4x4096x32x3, .f32⟩

abbrev hbmTy0_1 (i : Nat) : BufTy := match i % 128 with
  | 0 => ⟨S524288x1, .i1⟩
  | 1 => ⟨S524288x1, .f32⟩
  | 2 => ⟨S_, .f32⟩
  | 3 => ⟨S524288x1, .f32⟩
  | 4 => ⟨S524288x1, .f32⟩
  | 5 => ⟨S524288, .f32⟩
  | 6 => ⟨S524288x1, .i32⟩
  | 7 => ⟨S_, .i32⟩
  | 8 => ⟨S524288x1, .i32⟩
  | 9 => ⟨S524288x1, .i1⟩
  | 10 => ⟨S_, .i32⟩
  | 11 => ⟨S524288x1, .i32⟩
  | 12 => ⟨S524288x1, .i32⟩
  | 13 => ⟨S524288x1, .i32⟩
  | 14 => ⟨S524288x1x1, .i32⟩
  | 15 => ⟨S1, .i32⟩
  | 16 => ⟨S_, .i32⟩
  | 17 => ⟨S524288x1x1, .i32⟩
  | 18 => ⟨S524288x1x1, .i1⟩
  | 19 => ⟨S1x1x1, .i32⟩
  | 20 => ⟨S524288x1x1, .i32⟩
  | 21 => ⟨S524288x1x1, .i1⟩
  | 22 => ⟨S524288x1x1, .i1⟩
  | 23 => ⟨S_, .i1⟩
  | 24 => ⟨S524288x1, .i1⟩
  | 25 => ⟨S524288x1, .f32⟩
  | 26 => ⟨S_, .f32⟩
  | 27 => ⟨S524288x1, .f32⟩
  | 28 => ⟨S524288x1, .f32⟩
  | 29 => ⟨S524288, .f32⟩
  | 30 => ⟨S524288x1, .i32⟩
  | 31 => ⟨S_, .i32⟩
  | 32 => ⟨S524288x1, .i32⟩
  | 33 => ⟨S524288x1, .i1⟩
  | 34 => ⟨S_, .i32⟩
  | 35 => ⟨S524288x1, .i32⟩
  | 36 => ⟨S524288x1, .i32⟩
  | 37 => ⟨S524288x1, .i32⟩
  | 38 => ⟨S524288x1x1, .i32⟩
  | 39 => ⟨S1, .i32⟩
  | 40 => ⟨S_, .i32⟩
  | 41 => ⟨S524288x1x1, .i32⟩
  | 42 => ⟨S524288x1x1, .i1⟩
  | 43 => ⟨S1x1x1, .i32⟩
  | 44 => ⟨S524288x1x1, .i32⟩
  | 45 => ⟨S524288x1x1, .i1⟩
  | 46 => ⟨S524288x1x1, .i1⟩
  | 47 => ⟨S_, .i1⟩
  | 48 => ⟨S524288x1, .i1⟩
  | 49 => ⟨S524288x1, .f32⟩
  | 50 => ⟨S_, .f32⟩
  | 51 => ⟨S524288x1, .f32⟩
  | 52 => ⟨S524288x1, .f32⟩
  | 53 => ⟨S524288, .f32⟩
  | 54 => ⟨S524288x1, .i32⟩
  | 55 => ⟨S_, .i32⟩
  | 56 => ⟨S524288x1, .i32⟩
  | 57 => ⟨S524288x1, .i1⟩
  | 58 => ⟨S_, .i32⟩
  | 59 => ⟨S524288x1, .i32⟩
  | 60 => ⟨S524288x1, .i32⟩
  | 61 => ⟨S524288x1, .i32⟩
  | 62 => ⟨S524288x1x1, .i32⟩
  | 63 => ⟨S1, .i32⟩
  | 64 => ⟨S_, .i32⟩
  | 65 => ⟨S524288x1x1, .i32⟩
  | 66 => ⟨S524288x1x1, .i1⟩
  | 67 => ⟨S1x1x1, .i32⟩
  | 68 => ⟨S524288x1x1, .i32⟩
  | 69 => ⟨S524288x1x1, .i1⟩
  | 70 => ⟨S524288x1x1, .i1⟩
  | 71 => ⟨S_, .i1⟩
  | 72 => ⟨S524288x1, .i1⟩
  | 73 => ⟨S524288x1, .f32⟩
  | 74 => ⟨S_, .f32⟩
  | 75 => ⟨S524288x1, .f32⟩
  | 76 => ⟨S524288x1, .f32⟩
  | 77 => ⟨S524288, .f32⟩
  | 78 => ⟨S524288, .f32⟩
  | 79 => ⟨S524288, .f32⟩
  | 80 => ⟨S524288, .f32⟩
  | 81 => ⟨S524288, .f32⟩
  | 82 => ⟨S524288, .f32⟩
  | 83 => ⟨S524288, .f32⟩
  | 84 => ⟨S524288, .f32⟩
  | 85 => ⟨S4x4096x32, .f32⟩
  | 86 => ⟨S1x1x1x3, .f32⟩
  | 87 => ⟨S4x4096x32x3, .f32⟩
  | 88 => ⟨S4x4096x32x3, .f32⟩
  | 89 => ⟨S_, .i32⟩
  | 90 => ⟨S1, .i32⟩
  | 91 => ⟨S4x4096x32x3, .f32⟩
  | _ => ⟨S4x4096x32x3, .f32⟩

abbrev hbmTy (i : Nat) : BufTy := match i / 128 with
  | 0 => hbmTy0_0 i
  | 1 => hbmTy0_1 i
  | _ => ⟨S4x4096x32x3, .f32⟩

abbrev bufTy : (tb : Table) → Fin (tcTables nBuf tb) → BufTy
  | .hbm, ⟨i, _⟩ => hbmTy i
  | _, _ => ⟨S4x4096x32x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_call0_cst : Ref sig .tc := ⟨.hbm, 16, rfl⟩
abbrev main_call0_v0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call1_cst : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_call1_v5 : Ref sig .tc := ⟨.hbm, 29, rfl⟩
abbrev main_call1_v6 : Ref sig .tc := ⟨.hbm, 30, rfl⟩
abbrev main_call1_v7 : Ref sig .tc := ⟨.hbm, 31, rfl⟩
abbrev main_call1_v8 : Ref sig .tc := ⟨.hbm, 32, rfl⟩
abbrev main_call1_v9 : Ref sig .tc := ⟨.hbm, 33, rfl⟩
abbrev main_call1_v10 : Ref sig .tc := ⟨.hbm, 34, rfl⟩
abbrev main_call1_v11 : Ref sig .tc := ⟨.hbm, 35, rfl⟩
abbrev main_v14 : Ref sig .tc := ⟨.hbm, 36, rfl⟩
abbrev main_cst_0 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst_1 : Ref sig .tc := ⟨.hbm, 50, rfl⟩
abbrev main_v27 : Ref sig .tc := ⟨.hbm, 51, rfl⟩
abbrev main_v28 : Ref sig .tc := ⟨.hbm, 52, rfl⟩
abbrev main_cst_2 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_3 : Ref sig .tc := ⟨.hbm, 64, rfl⟩
abbrev main_v39 : Ref sig .tc := ⟨.hbm, 65, rfl⟩
abbrev main_v40 : Ref sig .tc := ⟨.hbm, 66, rfl⟩
abbrev main_cst_4 : Ref sig .tc := ⟨.hbm, 67, rfl⟩
abbrev main_v41 : Ref sig .tc := ⟨.hbm, 68, rfl⟩
abbrev main_v42 : Ref sig .tc := ⟨.hbm, 69, rfl⟩
abbrev main_cst_5 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_cst_6 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_7 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_cst_8 : Ref sig .tc := ⟨.hbm, 93, rfl⟩
abbrev main_v63 : Ref sig .tc := ⟨.hbm, 94, rfl⟩
abbrev main_v64 : Ref sig .tc := ⟨.hbm, 95, rfl⟩
abbrev main_call2_v0 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_call3_v0 : Ref sig .tc := ⟨.hbm, 105, rfl⟩
abbrev main_call3_c : Ref sig .tc := ⟨.hbm, 106, rfl⟩
abbrev main_call3_c_0 : Ref sig .tc := ⟨.hbm, 107, rfl⟩
abbrev main_call3_v1_0 : Ref sig .tc := ⟨.hbm, 108, rfl⟩
abbrev main_v73 : Ref sig .tc := ⟨.hbm, 109, rfl⟩
abbrev main_v74 : Ref sig .tc := ⟨.hbm, 110, rfl⟩
abbrev main_call4_c : Ref sig .tc := ⟨.hbm, 111, rfl⟩
abbrev main_call4_v0 : Ref sig .tc := ⟨.hbm, 112, rfl⟩
abbrev main_call4_v1 : Ref sig .tc := ⟨.hbm, 113, rfl⟩
abbrev main_call4_c_0 : Ref sig .tc := ⟨.hbm, 114, rfl⟩
abbrev main_call4_v2 : Ref sig .tc := ⟨.hbm, 115, rfl⟩
abbrev main_call4_v3 : Ref sig .tc := ⟨.hbm, 116, rfl⟩
abbrev main_call4_v4 : Ref sig .tc := ⟨.hbm, 117, rfl⟩
abbrev main_call4_v5 : Ref sig .tc := ⟨.hbm, 118, rfl⟩
abbrev main_call4_c_1 : Ref sig .tc := ⟨.hbm, 119, rfl⟩
abbrev main_call4_c_2 : Ref sig .tc := ⟨.hbm, 120, rfl⟩
abbrev main_call4_v6 : Ref sig .tc := ⟨.hbm, 121, rfl⟩
abbrev main_call4_v7 : Ref sig .tc := ⟨.hbm, 122, rfl⟩
abbrev main_call4_v8 : Ref sig .tc := ⟨.hbm, 123, rfl⟩
abbrev main_call4_v9 : Ref sig .tc := ⟨.hbm, 124, rfl⟩
abbrev main_call4_v10 : Ref sig .tc := ⟨.hbm, 125, rfl⟩
abbrev main_call4_v11 : Ref sig .tc := ⟨.hbm, 126, rfl⟩
abbrev main_call4_c_3 : Ref sig .tc := ⟨.hbm, 127, rfl⟩
abbrev main_call4_v12 : Ref sig .tc := ⟨.hbm, 128, rfl⟩
abbrev main_call4_v13 : Ref sig .tc := ⟨.hbm, 129, rfl⟩
abbrev main_call4_cst : Ref sig .tc := ⟨.hbm, 130, rfl⟩
abbrev main_call4_v14 : Ref sig .tc := ⟨.hbm, 131, rfl⟩
abbrev main_v75 : Ref sig .tc := ⟨.hbm, 132, rfl⟩
abbrev main_v76 : Ref sig .tc := ⟨.hbm, 133, rfl⟩
abbrev main_v77 : Ref sig .tc := ⟨.hbm, 134, rfl⟩
abbrev main_call5_c : Ref sig .tc := ⟨.hbm, 135, rfl⟩
abbrev main_call5_v0 : Ref sig .tc := ⟨.hbm, 136, rfl⟩
abbrev main_call5_v1 : Ref sig .tc := ⟨.hbm, 137, rfl⟩
abbrev main_call5_c_0 : Ref sig .tc := ⟨.hbm, 138, rfl⟩
abbrev main_call5_v2 : Ref sig .tc := ⟨.hbm, 139, rfl⟩
abbrev main_call5_v3 : Ref sig .tc := ⟨.hbm, 140, rfl⟩
abbrev main_call5_v4 : Ref sig .tc := ⟨.hbm, 141, rfl⟩
abbrev main_call5_v5 : Ref sig .tc := ⟨.hbm, 142, rfl⟩
abbrev main_call5_c_1 : Ref sig .tc := ⟨.hbm, 143, rfl⟩
abbrev main_call5_c_2 : Ref sig .tc := ⟨.hbm, 144, rfl⟩
abbrev main_call5_v6 : Ref sig .tc := ⟨.hbm, 145, rfl⟩
abbrev main_call5_v7 : Ref sig .tc := ⟨.hbm, 146, rfl⟩
abbrev main_call5_v8 : Ref sig .tc := ⟨.hbm, 147, rfl⟩
abbrev main_call5_v9 : Ref sig .tc := ⟨.hbm, 148, rfl⟩
abbrev main_call5_v10 : Ref sig .tc := ⟨.hbm, 149, rfl⟩
abbrev main_call5_v11 : Ref sig .tc := ⟨.hbm, 150, rfl⟩
abbrev main_call5_c_3 : Ref sig .tc := ⟨.hbm, 151, rfl⟩
abbrev main_call5_v12 : Ref sig .tc := ⟨.hbm, 152, rfl⟩
abbrev main_call5_v13 : Ref sig .tc := ⟨.hbm, 153, rfl⟩
abbrev main_call5_cst : Ref sig .tc := ⟨.hbm, 154, rfl⟩
abbrev main_call5_v14 : Ref sig .tc := ⟨.hbm, 155, rfl⟩
abbrev main_v78 : Ref sig .tc := ⟨.hbm, 156, rfl⟩
abbrev main_v79 : Ref sig .tc := ⟨.hbm, 157, rfl⟩
abbrev main_v80 : Ref sig .tc := ⟨.hbm, 158, rfl⟩
abbrev main_call6_c : Ref sig .tc := ⟨.hbm, 159, rfl⟩
abbrev main_call6_v0 : Ref sig .tc := ⟨.hbm, 160, rfl⟩
abbrev main_call6_v1 : Ref sig .tc := ⟨.hbm, 161, rfl⟩
abbrev main_call6_c_0 : Ref sig .tc := ⟨.hbm, 162, rfl⟩
abbrev main_call6_v2 : Ref sig .tc := ⟨.hbm, 163, rfl⟩
abbrev main_call6_v3 : Ref sig .tc := ⟨.hbm, 164, rfl⟩
abbrev main_call6_v4 : Ref sig .tc := ⟨.hbm, 165, rfl⟩
abbrev main_call6_v5 : Ref sig .tc := ⟨.hbm, 166, rfl⟩
abbrev main_call6_c_1 : Ref sig .tc := ⟨.hbm, 167, rfl⟩
abbrev main_call6_c_2 : Ref sig .tc := ⟨.hbm, 168, rfl⟩
abbrev main_call6_v6 : Ref sig .tc := ⟨.hbm, 169, rfl⟩
abbrev main_call6_v7 : Ref sig .tc := ⟨.hbm, 170, rfl⟩
abbrev main_call6_v8 : Ref sig .tc := ⟨.hbm, 171, rfl⟩
abbrev main_call6_v9 : Ref sig .tc := ⟨.hbm, 172, rfl⟩
abbrev main_call6_v10 : Ref sig .tc := ⟨.hbm, 173, rfl⟩
abbrev main_call6_v11 : Ref sig .tc := ⟨.hbm, 174, rfl⟩
abbrev main_call6_c_3 : Ref sig .tc := ⟨.hbm, 175, rfl⟩
abbrev main_call6_v12 : Ref sig .tc := ⟨.hbm, 176, rfl⟩
abbrev main_call6_v13 : Ref sig .tc := ⟨.hbm, 177, rfl⟩
abbrev main_call6_cst : Ref sig .tc := ⟨.hbm, 178, rfl⟩
abbrev main_call6_v14 : Ref sig .tc := ⟨.hbm, 179, rfl⟩
abbrev main_v81 : Ref sig .tc := ⟨.hbm, 180, rfl⟩
abbrev main_v82 : Ref sig .tc := ⟨.hbm, 181, rfl⟩
abbrev main_v83 : Ref sig .tc := ⟨.hbm, 182, rfl⟩
abbrev main_call7_c : Ref sig .tc := ⟨.hbm, 183, rfl⟩
abbrev main_call7_v0 : Ref sig .tc := ⟨.hbm, 184, rfl⟩
abbrev main_call7_v1 : Ref sig .tc := ⟨.hbm, 185, rfl⟩
abbrev main_call7_c_0 : Ref sig .tc := ⟨.hbm, 186, rfl⟩
abbrev main_call7_v2 : Ref sig .tc := ⟨.hbm, 187, rfl⟩
abbrev main_call7_v3 : Ref sig .tc := ⟨.hbm, 188, rfl⟩
abbrev main_call7_v4 : Ref sig .tc := ⟨.hbm, 189, rfl⟩
abbrev main_call7_v5 : Ref sig .tc := ⟨.hbm, 190, rfl⟩
abbrev main_call7_c_1 : Ref sig .tc := ⟨.hbm, 191, rfl⟩
abbrev main_call7_c_2 : Ref sig .tc := ⟨.hbm, 192, rfl⟩
abbrev main_call7_v6 : Ref sig .tc := ⟨.hbm, 193, rfl⟩
abbrev main_call7_v7 : Ref sig .tc := ⟨.hbm, 194, rfl⟩
abbrev main_call7_v8 : Ref sig .tc := ⟨.hbm, 195, rfl⟩
abbrev main_call7_v9 : Ref sig .tc := ⟨.hbm, 196, rfl⟩
abbrev main_call7_v10 : Ref sig .tc := ⟨.hbm, 197, rfl⟩
abbrev main_call7_v11 : Ref sig .tc := ⟨.hbm, 198, rfl⟩
abbrev main_call7_c_3 : Ref sig .tc := ⟨.hbm, 199, rfl⟩
abbrev main_call7_v12 : Ref sig .tc := ⟨.hbm, 200, rfl⟩
abbrev main_call7_v13 : Ref sig .tc := ⟨.hbm, 201, rfl⟩
abbrev main_call7_cst : Ref sig .tc := ⟨.hbm, 202, rfl⟩
abbrev main_call7_v14 : Ref sig .tc := ⟨.hbm, 203, rfl⟩
abbrev main_v84 : Ref sig .tc := ⟨.hbm, 204, rfl⟩
abbrev main_v85 : Ref sig .tc := ⟨.hbm, 205, rfl⟩
abbrev main_v86 : Ref sig .tc := ⟨.hbm, 206, rfl⟩
abbrev main_v87 : Ref sig .tc := ⟨.hbm, 207, rfl⟩
abbrev main_v88 : Ref sig .tc := ⟨.hbm, 208, rfl⟩
abbrev main_v89 : Ref sig .tc := ⟨.hbm, 209, rfl⟩
abbrev main_v90 : Ref sig .tc := ⟨.hbm, 210, rfl⟩
abbrev main_v91 : Ref sig .tc := ⟨.hbm, 211, rfl⟩
abbrev main_v92 : Ref sig .tc := ⟨.hbm, 212, rfl⟩
abbrev main_v93 : Ref sig .tc := ⟨.hbm, 213, rfl⟩
abbrev main_v94 : Ref sig .tc := ⟨.hbm, 214, rfl⟩
abbrev main_v95 : Ref sig .tc := ⟨.hbm, 215, rfl⟩
abbrev main_v96 : Ref sig .tc := ⟨.hbm, 216, rfl⟩
abbrev main_c : Ref sig .tc := ⟨.hbm, 217, rfl⟩
abbrev main_v97 : Ref sig .tc := ⟨.hbm, 218, rfl⟩
abbrev main_v98 : Ref sig .tc := ⟨.hbm, 219, rfl⟩

abbrev nD : Nat := 1
abbrev τ : Topo := Topo.v7x

variable {F : FTy → Type} [FloatOps F]
-- ==== Proof.RefStages.lean ====
module

public import proofs.«01_k».proof.Proof.Gen.ReferenceIdeal
public import Idealize.ShloMosaic.Lib.StableHlo.Run

@[expose] public section

noncomputable section

namespace Cert.ReferenceIdeal.Stage

open Cert.ReferenceIdeal Cert.ReferenceIdeal.Gen Idealize.ShloMosaic Idealize.ShloMosaic.TcCoe Idealize.SL.Sem Idealize.ShloMosaic.StableHlo

variable {F : FTy → Type} [FloatOps F]

/-- Two blocks joined along the last axis: the point's two features, then the 192 time features. -/
def cat194 (a : (⟨S4x4096x32x2, .f32⟩ : BufTy).Contents (Elt F)) (b : (⟨S4x4096x32x192, .f32⟩ : BufTy).Contents (Elt F)) : (⟨S4x4096x32x194, .f32⟩ : BufTy).Contents (Elt F) :=
  concatenate S4x4096x32x194 3 [⟨S4x4096x32x2, a⟩, ⟨S4x4096x32x192, b⟩] concatenates_S4x4096x32x2_S4x4096x32x192_S4x4096x32x194_d3

/-- Six knot coordinates joined along the last axis. -/
def cat6 (u0 u1 u2 u3 u4 u5 : (⟨S4x4096x32x1, .f32⟩ : BufTy).Contents (Elt F)) : (⟨S4x4096x32x6, .f32⟩ : BufTy).Contents (Elt F) :=
  concatenate S4x4096x32x6 3 [⟨S4x4096x32x1, u0⟩, ⟨S4x4096x32x1, u1⟩, ⟨S4x4096x32x1, u2⟩, ⟨S4x4096x32x1, u3⟩, ⟨S4x4096x32x1, u4⟩, ⟨S4x4096x32x1, u5⟩] concatenates_S4x4096x32x1_S4x4096x32x1_S4x4096x32x1_S4x4096x32x1_S4x4096x32x1_S4x4096x32x1_S4x4096x32x6_d3

/-- The hidden layer of every point: the features times the first weights, plus the first bias, kept above zero. -/
def hidden (x : (⟨S4x4096x32x3, .f32⟩ : BufTy).Contents (Elt F)) (t : (⟨S4x192, .f32⟩ : BufTy).Contents (Elt F)) (w : (⟨S194x64, .f32⟩ : BufTy).Contents (Elt F)) (b : (⟨S64, .f32⟩ : BufTy).Contents (Elt F)) : (⟨S4x4096x32x64, .f32⟩ : BufTy).Contents (Elt F) :=
  maximumf (addf (Host.dotGeneral dot_S4x4096x32x194_S194x64_S4x4096x32x64_3_0_012_1_n_n none (cat194 (Host.tanh (extractStridedSlice S4x4096x32x2 ![0, 0, 0, 0] x slices_S4x4096x32x3_S4x4096x32x2_0_0_0_0)) (broadcastInDim S4x4096x32x192 ![0, 1, 2, 3] bcast_S4x1x1x192_S4x4096x32x192_0_1_2_3 (broadcastInDim S4x1x1x192 ![0, 3] bcast_S4x192_S4x1x1x192_0_3 t))) w) (broadcastInDim S4x4096x32x64 ![0, 1, 2, 3] bcast_S1x1x1x64_S4x4096x32x64_0_1_2_3 (broadcastInDim S1x1x1x64 ![3] bcast_S64_S1x1x1x64_3 b))) (broadcastInDim S4x4096x32x64 ![] bcast_S_S4x4096x32x64 (constant S_ .f32 0x00000000#32))

/-- The second layer of every point, before the softplus. -/
def raw (h : (⟨S4x4096x32x64, .f32⟩ : BufTy).Contents (Elt F)) (w : (⟨S64x10, .f32⟩ : BufTy).Contents (Elt F)) (b : (⟨S10, .f32⟩ : BufTy).Contents (Elt F)) : (⟨S4x4096x32x10, .f32⟩ : BufTy).Contents (Elt F) :=
  addf (Host.dotGeneral dot_S4x4096x32x64_S64x10_S4x4096x32x10_3_0_012_1_n_n none h w) (broadcastInDim S4x4096x32x10 ![0, 1, 2, 3] bcast_S1x1x1x10_S4x4096x32x10_0_1_2_3 (broadcastInDim S1x1x1x10 ![3] bcast_S10_S1x1x1x10_3 b))

/-- The softplus of the second layer plus a small positive constant: the ten parameters of a point. -/
def params (r : (⟨S4x4096x32x10, .f32⟩ : BufTy).Contents (Elt F)) : (⟨S4x4096x32x10, .f32⟩ : BufTy).Contents (Elt F) :=
  addf (select (cmpf .une (subf r (broadcastInDim S4x4096x32x10 ![] bcast_S_S4x4096x32x10 (constant S_ .f32 0x00000000#32))) (subf r (broadcastInDim S4x4096x32x10 ![] bcast_S_S4x4096x32x10 (constant S_ .f32 0x00000000#32)))) (addf r (broadcastInDim S4x4096x32x10 ![] bcast_S_S4x4096x32x10 (constant S_ .f32 0x00000000#32))) (addf (maximumf r (broadcastInDim S4x4096x32x10 ![] bcast_S_S4x4096x32x10 (constant S_ .f32 0x00000000#32))) (Host.log1p (Host.exp (Host.negf (Host.absf (subf r (broadcastInDim S4x4096x32x10 ![] bcast_S_S4x4096x32x10 (constant S_ .f32 0x00000000#32))))))))) (broadcastInDim S4x4096x32x10 ![] bcast_S_S4x4096x32x10 (constant S_ .f32 0x3A83126F#32))

/-- The six abscissas of a point, from its parameters. -/
def knotsX (p : (⟨S4x4096x32x10, .f32⟩ : BufTy).Contents (Elt F)) : (⟨S4x4096x32x6, .f32⟩ : BufTy).Contents (Elt F) :=
  cat6 (subf (subf (Host.negf (extractStridedSlice S4x4096x32x1 ![0, 0, 0, 1] p slices_S4x4096x32x10_S4x4096x32x1_0_0_0_1)) (extractStridedSlice S4x4096x32x1 ![0, 0, 0, 0] p slices_S4x4096x32x10_S4x4096x32x1_0_0_0_0)) (broadcastInDim S4x4096x32x1 ![] bcast_S_S4x4096x32x1 (constant S_ .f32 0x461C4000#32))) (subf (Host.negf (extractStridedSlice S4x4096x32x1 ![0, 0, 0, 1] p slices_S4x4096x32x10_S4x4096x32x1_0_0_0_1)) (extractStridedSlice S4x4096x32x1 ![0, 0, 0, 0] p slices_S4x4096x32x10_S4x4096x32x1_0_0_0_0)) (Host.negf (extractStridedSlice S4x4096x32x1 ![0, 0, 0, 1] p slices_S4x4096x32x10_S4x4096x32x1_0_0_0_1)) (extractStridedSlice S4x4096x32x1 ![0, 0, 0, 2] p slices_S4x4096x32x10_S4x4096x32x1_0_0_0_2) (addf (extractStridedSlice S4x4096x32x1 ![0, 0, 0, 2] p slices_S4x4096x32x10_S4x4096x32x1_0_0_0_2) (extractStridedSlice S4x4096x32x1 ![0, 0, 0, 3] p slices_S4x4096x32x10_S4x4096x32x1_0_0_0_3)) (addf (addf (extractStridedSlice S4x4096x32x1 ![0, 0, 0, 2] p slices_S4x4096x32x10_S4x4096x32x1_0_0_0_2) (extractStridedSlice S4x4096x32x1 ![0, 0, 0, 3] p slices_S4x4096x32x10_S4x4096x32x1_0_0_0_3)) (broadcastInDim S4x4096x32x1 ![] bcast_S_S4x4096x32x1 (constant S_ .f32 0x461C4000#32)))

/-- The six ordinates of a point, from its parameters. -/
def knotsY (p : (⟨S4x4096x32x10, .f32⟩ : BufTy).Contents (Elt F)) : (⟨S4x4096x32x6, .f32⟩ : BufTy).Contents (Elt F) :=
  cat6 (subf (subf (Host.negf (extractStridedSlice S4x4096x32x1 ![0, 0, 0, 5] p slices_S4x4096x32x10_S4x4096x32x1_0_0_0_5)) (extractStridedSlice S4x4096x32x1 ![0, 0, 0, 4] p slices_S4x4096x32x10_S4x4096x32x1_0_0_0_4)) (mulf (mulf (extractStridedSlice S4x4096x32x1 ![0, 0, 0, 8] p slices_S4x4096x32x10_S4x4096x32x1_0_0_0_8) (broadcastInDim S4x4096x32x1 ![] bcast_S_S4x4096x32x1 (constant S_ .f32 0x40000000#32))) (broadcastInDim S4x4096x32x1 ![] bcast_S_S4x4096x32x1 (constant S_ .f32 0x461C4000#32)))) (subf (Host.negf (extractStridedSlice S4x4096x32x1 ![0, 0, 0, 5] p slices_S4x4096x32x10_S4x4096x32x1_0_0_0_5)) (extractStridedSlice S4x4096x32x1 ![0, 0, 0, 4] p slices_S4x4096x32x10_S4x4096x32x1_0_0_0_4)) (Host.negf (extractStridedSlice S4x4096x32x1 ![0, 0, 0, 5] p slices_S4x4096x32x10_S4x4096x32x1_0_0_0_5)) (extractStridedSlice S4x4096x32x1 ![0, 0, 0, 6] p slices_S4x4096x32x10_S4x4096x32x1_0_0_0_6) (addf (extractStridedSlice S4x4096x32x1 ![0, 0, 0, 6] p slices_S4x4096x32x10_S4x4096x32x1_0_0_0_6) (extractStridedSlice S4x4096x32x1 ![0, 0, 0, 7] p slices_S4x4096x32x10_S4x4096x32x1_0_0_0_7)) (addf (addf (extractStridedSlice S4x4096x32x1 ![0, 0, 0, 6] p slices_S4x4096x32x10_S4x4096x32x1_0_0_0_6) (extractStridedSlice S4x4096x32x1 ![0, 0, 0, 7] p slices_S4x4096x32x10_S4x4096x32x1_0_0_0_7)) (mulf (mulf (extractStridedSlice S4x4096x32x1 ![0, 0, 0, 9] p slices_S4x4096x32x10_S4x4096x32x1_0_0_0_9) (broadcastInDim S4x4096x32x1 ![] bcast_S_S4x4096x32x1 (constant S_ .f32 0x40000000#32))) (broadcastInDim S4x4096x32x1 ![] bcast_S_S4x4096x32x1 (constant S_ .f32 0x461C4000#32))))

/-- The coordinate that is mapped, one per point, as a column. -/
def third (x : (⟨S4x4096x32x3, .f32⟩ : BufTy).Contents (Elt F)) : (⟨S524288x1, .f32⟩ : BufTy).Contents (Elt F) :=
  shapeCast _ (extractStridedSlice S4x4096x32x1 ![0, 0, 0, 2] x slices_S4x4096x32x3_S4x4096x32x1_0_0_0_2) shapeCasts_S4x4096x32x1_S524288x1

/-- The right ends of the five bins. -/
def rights (a : (⟨S4x4096x32x6, .f32⟩ : BufTy).Contents (Elt F)) : (⟨S524288x5, .f32⟩ : BufTy).Contents (Elt F) :=
  extractStridedSlice S524288x5 ![0, 1] (shapeCast _ a shapeCasts_S4x4096x32x6_S524288x6) slices_S524288x6_S524288x5_0_1

/-- The left ends of the five bins. -/
def lefts (a : (⟨S4x4096x32x6, .f32⟩ : BufTy).Contents (Elt F)) : (⟨S524288x5, .f32⟩ : BufTy).Contents (Elt F) :=
  extractStridedSlice S524288x5 ![0, 0] (shapeCast _ a shapeCasts_S4x4096x32x6_S524288x6) slices_S524288x6_S524288x5_0_0

/-- The coordinate moved to its clipped value. -/
def clipped (z : (⟨S524288x1, .f32⟩ : BufTy).Contents (Elt F)) (xl : (⟨S524288x5, .f32⟩ : BufTy).Contents (Elt F)) (xr : (⟨S524288x5, .f32⟩ : BufTy).Contents (Elt F)) : (⟨S524288x1, .f32⟩ : BufTy).Contents (Elt F) :=
  addf z (subf (minimumf (mulf (extractStridedSlice S524288x1 ![0, 4] xr slices_S524288x5_S524288x1_0_4) (broadcastInDim S524288x1 ![] bcast_S_S524288x1 (constant S_ .f32 0x3F7D70A4#32))) (maximumf (mulf (extractStridedSlice S524288x1 ![0, 0] xl slices_S524288x5_S524288x1_0_0) (broadcastInDim S524288x1 ![] bcast_S_S524288x1 (constant S_ .f32 0x3F7D70A4#32))) z)) z)

/-- For each of the five bins, whether it holds the coordinate. -/
def inBin (q : (⟨S524288x1, .f32⟩ : BufTy).Contents (Elt F)) (xl : (⟨S524288x5, .f32⟩ : BufTy).Contents (Elt F)) (xr : (⟨S524288x5, .f32⟩ : BufTy).Contents (Elt F)) : (⟨S524288x5, .i1⟩ : BufTy).Contents (Elt F) :=
  andi (cmpf .oge (broadcastInDim S524288x5 ![0, 1] bcast_S524288x1_S524288x5_0_1 q) xl) (cmpf .olt (broadcastInDim S524288x5 ![0, 1] bcast_S524288x1_S524288x5_0_1 q) xr)

/-- The first bin that holds the coordinate. -/
def bin (r : (⟨S524288x5, .i1⟩ : BufTy).Contents (Elt F)) : (⟨S524288, .i32⟩ : BufTy).Contents (Elt F) :=
  fun j => (Host.reduce2 reducer_argmax_i1_i32 r (iotaInDim S524288x5 32 1) (constantI S_ 1 0#1) (constantI S_ 32 0#32) reducesTo_S524288x5_S524288_d1 h_S_ j).2

/-- The entry of each row that the row's bin names. -/
def take (a : (⟨S524288x5, .f32⟩ : BufTy).Contents (Elt F)) (k : (⟨S524288, .i32⟩ : BufTy).Contents (Elt F)) : (⟨S524288, .f32⟩ : BufTy).Contents (Elt F) :=
  shapeCast _ (select (Host.reduce IntOp.andi (andi (cmpi .sge (shapeCast _ (select (cmpi .slt (broadcastInDim S524288x1 ![0] bcast_S524288_S524288x1_0 k) (broadcastInDim S524288x1 ![] bcast_S_S524288x1 (constantI S_ 32 0#32))) (addi (broadcastInDim S524288x1 ![0] bcast_S524288_S524288x1_0 k) (broadcastInDim S524288x1 ![] bcast_S_S524288x1 (constantI S_ 32 5#32))) (broadcastInDim S524288x1 ![0] bcast_S524288_S524288x1_0 k)) shapeCasts_S524288x1_S524288x1x1) (broadcastInDim S524288x1x1 ![] bcast_S_S524288x1x1 (constantI S_ 32 0#32))) (cmpi .sle (shapeCast _ (select (cmpi .slt (broadcastInDim S524288x1 ![0] bcast_S524288_S524288x1_0 k) (broadcastInDim S524288x1 ![] bcast_S_S524288x1 (constantI S_ 32 0#32))) (addi (broadcastInDim S524288x1 ![0] bcast_S524288_S524288x1_0 k) (broadcastInDim S524288x1 ![] bcast_S_S524288x1 (constantI S_ 32 5#32))) (broadcastInDim S524288x1 ![0] bcast_S524288_S524288x1_0 k)) shapeCasts_S524288x1_S524288x1x1) (broadcastInDim S524288x1x1 ![0, 1, 2] bcast_S1x1x1_S524288x1x1_0_1_2 (broadcastInDim S1x1x1 ![2] bcast_S1_S1x1x1_2 (constantI S1 32 4#32))))) (constantI S_ 1 1#1) reducesTo_S524288x1x1_S524288x1_d2 h_S_) (Host.gather gather_S524288x5_S524288x1x1_S524288x1_n_1_0_0_1_2_11 a (shapeCast _ (select (cmpi .slt (broadcastInDim S524288x1 ![0] bcast_S524288_S524288x1_0 k) (broadcastInDim S524288x1 ![] bcast_S_S524288x1 (constantI S_ 32 0#32))) (addi (broadcastInDim S524288x1 ![0] bcast_S524288_S524288x1_0 k) (broadcastInDim S524288x1 ![] bcast_S_S524288x1 (constantI S_ 32 5#32))) (broadcastInDim S524288x1 ![0] bcast_S524288_S524288x1_0 k)) shapeCasts_S524288x1_S524288x1x1)) (broadcastInDim S524288x1 ![] bcast_S_S524288x1 (constant S_ .f32 0x7FC00000#32))) shapeCasts_S524288x1_S524288

/-- The line through the bin's two knots, at the coordinate. -/
def value (q : (⟨S524288x1, .f32⟩ : BufTy).Contents (Elt F)) (xr : (⟨S524288, .f32⟩ : BufTy).Contents (Elt F)) (xl : (⟨S524288, .f32⟩ : BufTy).Contents (Elt F)) (yr : (⟨S524288, .f32⟩ : BufTy).Contents (Elt F)) (yl : (⟨S524288, .f32⟩ : BufTy).Contents (Elt F)) : (⟨S4x4096x32, .f32⟩ : BufTy).Contents (Elt F) :=
  shapeCast _ (addf (mulf (Host.divf (subf yr yl) (subf xr xl)) (subf (shapeCast _ q shapeCasts_S524288x1_S524288) xl)) yl) shapeCasts_S524288_S4x4096x32

/-- The factor of each of the three channels: one, one, zero. -/
def mask  : (⟨S3, .f32⟩ : BufTy).Contents (Elt F) :=
  fun i => FloatOps.ofBits .f32 (lit0 (S3.rowMajor i))

/-- The result: the first two channels of the input kept, the third replaced. -/
def assemble (x : (⟨S4x4096x32x3, .f32⟩ : BufTy).Contents (Elt F)) (k : (⟨S3, .f32⟩ : BufTy).Contents (Elt F)) (v : (⟨S4x4096x32, .f32⟩ : BufTy).Contents (Elt F)) : (⟨S4x4096x32x3, .f32⟩ : BufTy).Contents (Elt F) :=
  Host.scatter scatter_S4x4096x32x3_S1_S4x4096x32_012_3_3_0 (fun _ b => b) (mulf x (broadcastInDim S4x4096x32x3 ![0, 1, 2, 3] bcast_S1x1x1x3_S4x4096x32x3_0_1_2_3 (broadcastInDim S1x1x1x3 ![3] bcast_S3_S1x1x1x3_3 k))) (broadcastInDim S1 ![] bcast_S_S1 (constantI S_ 32 2#32)) v

end Cert.ReferenceIdeal.Stage

end
-- ==== Proof.RefRun.lean ====
module

public import proofs.«01_k».proof.Proof.RefStages
public import Idealize.ShloMosaic.Lib.StableHlo.RunRead
public import Idealize.ShloMosaic.Lib.Pipeline.Frame

@[expose] public section

noncomputable section

namespace Cert.ReferenceIdeal.Stage

open Cert.ReferenceIdeal Cert.ReferenceIdeal.Gen Idealize.ShloMosaic Idealize.ShloMosaic.TcCoe Idealize.SL.Sem Idealize.ShloMosaic.StableHlo

variable {F : FTy → Type} [FloatOps F]

/-- The operations of the reference that write `main_cst` to `main_v9`. -/
abbrev seg0 : List (HloOp τ sig (Elt F)) :=
  [ nullary main_cst (fun i => FloatOps.ofBits .f32 (lit0 (S3.rowMajor i))),
    unary main_arg0 main_v0 ((extractStridedSlice S4x4096x32x2 ![0, 0, 0, 0] · slices_S4x4096x32x3_S4x4096x32x2_0_0_0_0) : (⟨S4x4096x32x3, .f32⟩ : BufTy).Contents (Elt F) → (⟨S4x4096x32x2, .f32⟩ : BufTy).Contents (Elt F)),
    unary main_v0 main_v1 (Host.tanh : (⟨S4x4096x32x2, .f32⟩ : BufTy).Contents (Elt F) → (⟨S4x4096x32x2, .f32⟩ : BufTy).Contents (Elt F)),
    unary main_arg1 main_v2 (broadcastInDim S4x1x1x192 ![0, 3] bcast_S4x192_S4x1x1x192_0_3 : (⟨S4x192, .f32⟩ : BufTy).Contents (Elt F) → (⟨S4x1x1x192, .f32⟩ : BufTy).Contents (Elt F)),
    unary main_v2 main_v3 (broadcastInDim S4x4096x32x192 ![0, 1, 2, 3] bcast_S4x1x1x192_S4x4096x32x192_0_1_2_3 : (⟨S4x1x1x192, .f32⟩ : BufTy).Contents (Elt F) → (⟨S4x4096x32x192, .f32⟩ : BufTy).Contents (Elt F)),
    binary main_v1 main_v3 main_v4 cat194,
    binary main_v4 main_arg2 main_v5 ((fun l r => Host.dotGeneral dot_S4x4096x32x194_S194x64_S4x4096x32x64_3_0_012_1_n_n none l r) : (⟨S4x4096x32x194, .f32⟩ : BufTy).Contents (Elt F) → (⟨S194x64, .f32⟩ : BufTy).Contents (Elt F) → (⟨S4x4096x32x64, .f32⟩ : BufTy).Contents (Elt F)),
    unary main_arg3 main_v6 (broadcastInDim S1x1x1x64 ![3] bcast_S64_S1x1x1x64_3 : (⟨S64, .f32⟩ : BufTy).Contents (Elt F) → (⟨S1x1x1x64, .f32⟩ : BufTy).Contents (Elt F)),
    unary main_v6 main_v7 (broadcastInDim S4x4096x32x64 ![0, 1, 2, 3] bcast_S1x1x1x64_S4x4096x32x64_0_1_2_3 : (⟨S1x1x1x64, .f32⟩ : BufTy).Contents (Elt F) → (⟨S4x4096x32x64, .f32⟩ : BufTy).Contents (Elt F)),
    binary main_v5 main_v7 main_v8 (addf : (⟨S4x4096x32x64, .f32⟩ : BufTy).Contents (Elt F) → (⟨S4x4096x32x64, .f32⟩ : BufTy).Contents (Elt F) → (⟨S4x4096x32x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S4x4096x32x64, .f32⟩) main_call0_v0) (broadcastInDim S4x4096x32x64 ![] bcast_S_S4x4096x32x64),
    TRef.binary (TRef.of (T := ⟨S4x4096x32x64, .f32⟩) main_v8) (TRef.of (T := ⟨S4x4096x32x64, .f32⟩) main_call0_v0) (TRef.of (T := ⟨S4x4096x32x64, .f32⟩) main_v9) maximumf ]

/-- The operations of the reference that write `main_v10` to `main_v13`. -/
abbrev seg1 : List (HloOp τ sig (Elt F)) :=
  [ binary main_v9 main_arg4 main_v10 ((fun l r => Host.dotGeneral dot_S4x4096x32x64_S64x10_S4x4096x32x10_3_0_012_1_n_n none l r) : (⟨S4x4096x32x64, .f32⟩ : BufTy).Contents (Elt F) → (⟨S64x10, .f32⟩ : BufTy).Contents (Elt F) → (⟨S4x4096x32x10, .f32⟩ : BufTy).Contents (Elt F)),
    unary main_arg5 main_v11 (broadcastInDim S1x1x1x10 ![3] bcast_S10_S1x1x1x10_3 : (⟨S10, .f32⟩ : BufTy).Contents (Elt F) → (⟨S1x1x1x10, .f32⟩ : BufTy).Contents (Elt F)),
    unary main_v11 main_v12 (broadcastInDim S4x4096x32x10 ![0, 1, 2, 3] bcast_S1x1x1x10_S4x4096x32x10_0_1_2_3 : (⟨S1x1x1x10, .f32⟩ : BufTy).Contents (Elt F) → (⟨S4x4096x32x10, .f32⟩ : BufTy).Contents (Elt F)),
    binary main_v10 main_v12 main_v13 (addf : (⟨S4x4096x32x10, .f32⟩ : BufTy).Contents (Elt F) → (⟨S4x4096x32x10, .f32⟩ : BufTy).Contents (Elt F) → (⟨S4x4096x32x10, .f32⟩ : BufTy).Contents (Elt F)) ]

/-- The operations of the reference that write `main_call1_cst` to `main_v16`. -/
abbrev seg2 : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S4x4096x32x10, .f32⟩) main_call1_v0) (broadcastInDim S4x4096x32x10 ![] bcast_S_S4x4096x32x10),
    TRef.binary (TRef.of (T := ⟨S4x4096x32x10, .f32⟩) main_v13) (TRef.of (T := ⟨S4x4096x32x10, .f32⟩) main_call1_v0) (TRef.of (T := ⟨S4x4096x32x10, .f32⟩) main_call1_v1) maximumf,
    TRef.unary (TRef.of (T := ⟨S_, .f32⟩) main_call1_cst) (TRef.of (T := ⟨S4x4096x32x10, .f32⟩) main_call1_v2) (broadcastInDim S4x4096x32x10 ![] bcast_S_S4x4096x32x10),
    TRef.binary (TRef.of (T := ⟨S4x4096x32x10, .f32⟩) main_v13) (TRef.of (T := ⟨S4x4096x32x10, .f32⟩) main_call1_v2) (TRef.of (T := ⟨S4x4096x32x10, .f32⟩) main_call1_v3) subf,
    TRef.binary (TRef.of (T := ⟨S4x4096x32x10, .f32⟩) main_call1_v3) (TRef.of (T := ⟨S4x4096x32x10, .f32⟩) main_call1_v3) (TRef.of (T := ⟨S4x4096x32x10, .i1⟩) main_call1_v4) (cmpf .une),
    TRef.unary (TRef.of (T := ⟨S_, .f32⟩) main_call1_cst) (TRef.of (T := ⟨S4x4096x32x10, .f32⟩) main_call1_v5) (broadcastInDim S4x4096x32x10 ![] bcast_S_S4x4096x32x10),
    TRef.binary (TRef.of (T := ⟨S4x4096x32x10, .f32⟩) main_v13) (TRef.of (T := ⟨S4x4096x32x10, .f32⟩) main_call1_v5) (TRef.of (T := ⟨S4x4096x32x10, .f32⟩) main_call1_v6) addf,
    TRef.unary (TRef.of (T := ⟨S4x4096x32x10, .f32⟩) main_call1_v3) (TRef.of (T := ⟨S4x4096x32x10, .f32⟩) main_call1_v7) Host.absf,
    TRef.unary (TRef.of (T := ⟨S4x4096x32x10, .f32⟩) main_call1_v7) (TRef.of (T := ⟨S4x4096x32x10, .f32⟩) main_call1_v8) Host.negf,
    TRef.unary (TRef.of (T := ⟨S4x4096x32x10, .f32⟩) main_call1_v8) (TRef.of (T := ⟨S4x4096x32x10, .f32⟩) main_call1_v9) Host.exp,
    TRef.unary (TRef.of (T := ⟨S4x4096x32x10, .f32⟩) main_call1_v9) (TRef.of (T := ⟨S4x4096x32x10, .f32⟩) main_call1_v10) Host.log1p,
    TRef.binary (TRef.of (T := ⟨S4x4096x32x10, .f32⟩) main_call1_v1) (TRef.of (T := ⟨S4x4096x32x10, .f32⟩) main_call1_v10) (TRef.of (T := ⟨S4x4096x32x10, .f32⟩) main_call1_v11) addf,
    TRef.ternary (TRef.of (T := ⟨S4x4096x32x10, .i1⟩) main_call1_v4) (TRef.of (T := ⟨S4x4096x32x10, .f32⟩) main_call1_v6) (TRef.of (T := ⟨S4x4096x32x10, .f32⟩) main_call1_v11) (TRef.of (T := ⟨S4x4096x32x10, .f32⟩) main_v14) select,
    nullary main_cst_0 (constant S_ .f32 0x3A83126F#32),
    unary main_cst_0 main_v15 (broadcastInDim S4x4096x32x10 ![] bcast_S_S4x4096x32x10 : (⟨S_, .f32⟩ : BufTy).Contents (Elt F) → (⟨S4x4096x32x10, .f32⟩ : BufTy).Contents (Elt F)),
    binary main_v14 main_v15 main_v16 (addf : (⟨S4x4096x32x10, .f32⟩ : BufTy).Contents (Elt F) → (⟨S4x4096x32x10, .f32⟩ : BufTy).Contents (Elt F) → (⟨S4x4096x32x10, .f32⟩ : BufTy).Contents (Elt F)) ]

/-- The operations of the reference that write `main_v17` to `main_v51`. -/
abbrev seg3 : List (HloOp τ sig (Elt F)) :=
  [ unary main_v16 main_v17 ((extractStridedSlice S4x4096x32x1 ![0, 0, 0, 0] · slices_S4x4096x32x10_S4x4096x32x1_0_0_0_0) : (⟨S4x4096x32x10, .f32⟩ : BufTy).Contents (Elt F) → (⟨S4x4096x32x1, .f32⟩ : BufTy).Contents (Elt F)),
    unary main_v16 main_v18 ((extractStridedSlice S4x4096x32x1 ![0, 0, 0, 1] · slices_S4x4096x32x10_S4x4096x32x1_0_0_0_1) : (⟨S4x4096x32x10, .f32⟩ : BufTy).Contents (Elt F) → (⟨S4x4096x32x1, .f32⟩ : BufTy).Contents (Elt F)),
    unary main_v16 main_v19 ((extractStridedSlice S4x4096x32x1 ![0, 0, 0, 2] · slices_S4x4096x32x10_S4x4096x32x1_0_0_0_2) : (⟨S4x4096x32x10, .f32⟩ : BufTy).Contents (Elt F) → (⟨S4x4096x32x1, .f32⟩ : BufTy).Contents (Elt F)),
    unary main_v16 main_v20 ((extractStridedSlice S4x4096x32x1 ![0, 0, 0, 3] · slices_S4x4096x32x10_S4x4096x32x1_0_0_0_3) : (⟨S4x4096x32x10, .f32⟩ : BufTy).Contents (Elt F) → (⟨S4x4096x32x1, .f32⟩ : BufTy).Contents (Elt F)),
    unary main_v16 main_v21 ((extractStridedSlice S4x4096x32x1 ![0, 0, 0, 4] · slices_S4x4096x32x10_S4x4096x32x1_0_0_0_4) : (⟨S4x4096x32x10, .f32⟩ : BufTy).Contents (Elt F) → (⟨S4x4096x32x1, .f32⟩ : BufTy).Contents (Elt F)),
    unary main_v16 main_v22 ((extractStridedSlice S4x4096x32x1 ![0, 0, 0, 5] · slices_S4x4096x32x10_S4x4096x32x1_0_0_0_5) : (⟨S4x4096x32x10, .f32⟩ : BufTy).Contents (Elt F) → (⟨S4x4096x32x1, .f32⟩ : BufTy).Contents (Elt F)),
    unary main_v16 main_v23 ((extractStridedSlice S4x4096x32x1 ![0, 0, 0, 6] · slices_S4x4096x32x10_S4x4096x32x1_0_0_0_6) : (⟨S4x4096x32x10, .f32⟩ : BufTy).Contents (Elt F) → (⟨S4x4096x32x1, .f32⟩ : BufTy).Contents (Elt F)),
    unary main_v16 main_v24 ((extractStridedSlice S4x4096x32x1 ![0, 0, 0, 7] · slices_S4x4096x32x10_S4x4096x32x1_0_0_0_7) : (⟨S4x4096x32x10, .f32⟩ : BufTy).Contents (Elt F) → (⟨S4x4096x32x1, .f32⟩ : BufTy).Contents (Elt F)),
    unary main_v16 main_v25 ((extractStridedSlice S4x4096x32x1 ![0, 0, 0, 8] · slices_S4x4096x32x10_S4x4096x32x1_0_0_0_8) : (⟨S4x4096x32x10, .f32⟩ : BufTy).Contents (Elt F) → (⟨S4x4096x32x1, .f32⟩ : BufTy).Contents (Elt F)),
    unary main_v16 main_v26 ((extractStridedSlice S4x4096x32x1 ![0, 0, 0, 9] · slices_S4x4096x32x10_S4x4096x32x1_0_0_0_9) : (⟨S4x4096x32x10, .f32⟩ : BufTy).Contents (Elt F) → (⟨S4x4096x32x1, .f32⟩ : BufTy).Contents (Elt F)),
    nullary main_cst_1 (constant S_ .f32 0x40000000#32),
    unary main_cst_1 main_v27 (broadcastInDim S4x4096x32x1 ![] bcast_S_S4x4096x32x1 : (⟨S_, .f32⟩ : BufTy).Contents (Elt F) → (⟨S4x4096x32x1, .f32⟩ : BufTy).Contents (Elt F)),
    binary main_v25 main_v27 main_v28 (mulf : (⟨S4x4096x32x1, .f32⟩ : BufTy).Contents (Elt F) → (⟨S4x4096x32x1, .f32⟩ : BufTy).Contents (Elt F) → (⟨S4x4096x32x1, .f32⟩ : BufTy).Contents (Elt F)),
    nullary main_cst_2 (constant S_ .f32 0x40000000#32),
    unary main_cst_2 main_v29 (broadcastInDim S4x4096x32x1 ![] bcast_S_S4x4096x32x1 : (⟨S_, .f32⟩ : BufTy).Contents (Elt F) → (⟨S4x4096x32x1, .f32⟩ : BufTy).Contents (Elt F)),
    binary main_v26 main_v29 main_v30 (mulf : (⟨S4x4096x32x1, .f32⟩ : BufTy).Contents (Elt F) → (⟨S4x4096x32x1, .f32⟩ : BufTy).Contents (Elt F) → (⟨S4x4096x32x1, .f32⟩ : BufTy).Contents (Elt F)),
    unary main_v18 main_v31 (Host.negf : (⟨S4x4096x32x1, .f32⟩ : BufTy).Contents (Elt F) → (⟨S4x4096x32x1, .f32⟩ : BufTy).Contents (Elt F)),
    unary main_v18 main_v32 (Host.negf : (⟨S4x4096x32x1, .f32⟩ : BufTy).Contents (Elt F) → (⟨S4x4096x32x1, .f32⟩ : BufTy).Contents (Elt F)),
    binary main_v32 main_v17 main_v33 (subf : (⟨S4x4096x32x1, .f32⟩ : BufTy).Contents (Elt F) → (⟨S4x4096x32x1, .f32⟩ : BufTy).Contents (Elt F) → (⟨S4x4096x32x1, .f32⟩ : BufTy).Contents (Elt F)),
    unary main_v22 main_v34 (Host.negf : (⟨S4x4096x32x1, .f32⟩ : BufTy).Contents (Elt F) → (⟨S4x4096x32x1, .f32⟩ : BufTy).Contents (Elt F)),
    unary main_v22 main_v35 (Host.negf : (⟨S4x4096x32x1, .f32⟩ : BufTy).Contents (Elt F) → (⟨S4x4096x32x1, .f32⟩ : BufTy).Contents (Elt F)),
    binary main_v35 main_v21 main_v36 (subf : (⟨S4x4096x32x1, .f32⟩ : BufTy).Contents (Elt F) → (⟨S4x4096x32x1, .f32⟩ : BufTy).Contents (Elt F) → (⟨S4x4096x32x1, .f32⟩ : BufTy).Contents (Elt F)),
    binary main_v19 main_v20 main_v37 (addf : (⟨S4x4096x32x1, .f32⟩ : BufTy).Contents (Elt F) → (⟨S4x4096x32x1, .f32⟩ : BufTy).Contents (Elt F) → (⟨S4x4096x32x1, .f32⟩ : BufTy).Contents (Elt F)),
    binary main_v23 main_v24 main_v38 (addf : (⟨S4x4096x32x1, .f32⟩ : BufTy).Contents (Elt F) → (⟨S4x4096x32x1, .f32⟩ : BufTy).Contents (Elt F) → (⟨S4x4096x32x1, .f32⟩ : BufTy).Contents (Elt F)),
    nullary main_cst_3 (constant S_ .f32 0x461C4000#32),
    unary main_cst_3 main_v39 (broadcastInDim S4x4096x32x1 ![] bcast_S_S4x4096x32x1 : (⟨S_, .f32⟩ : BufTy).Contents (Elt F) → (⟨S4x4096x32x1, .f32⟩ : BufTy).Contents (Elt F)),
    binary main_v37 main_v39 main_v40 (addf : (⟨S4x4096x32x1, .f32⟩ : BufTy).Contents (Elt F) → (⟨S4x4096x32x1, .f32⟩ : BufTy).Contents (Elt F) → (⟨S4x4096x32x1, .f32⟩ : BufTy).Contents (Elt F)),
    nullary main_cst_4 (constant S_ .f32 0x461C4000#32),
    unary main_cst_4 main_v41 (broadcastInDim S4x4096x32x1 ![] bcast_S_S4x4096x32x1 : (⟨S_, .f32⟩ : BufTy).Contents (Elt F) → (⟨S4x4096x32x1, .f32⟩ : BufTy).Contents (Elt F)),
    binary main_v33 main_v41 main_v42 (subf : (⟨S4x4096x32x1, .f32⟩ : BufTy).Contents (Elt F) → (⟨S4x4096x32x1, .f32⟩ : BufTy).Contents (Elt F) → (⟨S4x4096x32x1, .f32⟩ : BufTy).Contents (Elt F)),
    nullary main_cst_5 (constant S_ .f32 0x461C4000#32),
    unary main_cst_5 main_v43 (broadcastInDim S4x4096x32x1 ![] bcast_S_S4x4096x32x1 : (⟨S_, .f32⟩ : BufTy).Contents (Elt F) → (⟨S4x4096x32x1, .f32⟩ : BufTy).Contents (Elt F)),
    binary main_v30 main_v43 main_v44 (mulf : (⟨S4x4096x32x1, .f32⟩ : BufTy).Contents (Elt F) → (⟨S4x4096x32x1, .f32⟩ : BufTy).Contents (Elt F) → (⟨S4x4096x32x1, .f32⟩ : BufTy).Contents (Elt F)),
    binary main_v38 main_v44 main_v45 (addf : (⟨S4x4096x32x1, .f32⟩ : BufTy).Contents (Elt F) → (⟨S4x4096x32x1, .f32⟩ : BufTy).Contents (Elt F) → (⟨S4x4096x32x1, .f32⟩ : BufTy).Contents (Elt F)),
    nullary main_cst_6 (constant S_ .f32 0x461C4000#32),
    unary main_cst_6 main_v46 (broadcastInDim S4x4096x32x1 ![] bcast_S_S4x4096x32x1 : (⟨S_, .f32⟩ : BufTy).Contents (Elt F) → (⟨S4x4096x32x1, .f32⟩ : BufTy).Contents (Elt F)),
    binary main_v28 main_v46 main_v47 (mulf : (⟨S4x4096x32x1, .f32⟩ : BufTy).Contents (Elt F) → (⟨S4x4096x32x1, .f32⟩ : BufTy).Contents (Elt F) → (⟨S4x4096x32x1, .f32⟩ : BufTy).Contents (Elt F)),
    binary main_v36 main_v47 main_v48 (subf : (⟨S4x4096x32x1, .f32⟩ : BufTy).Contents (Elt F) → (⟨S4x4096x32x1, .f32⟩ : BufTy).Contents (Elt F) → (⟨S4x4096x32x1, .f32⟩ : BufTy).Contents (Elt F)),
    nary ![main_v42, main_v33, main_v31, main_v19, main_v37, main_v40] main_v49 (fun u => cat6 (u 0) (u 1) (u 2) (u 3) (u 4) (u 5)),
    nary ![main_v48, main_v36, main_v34, main_v23, main_v38, main_v45] main_v50 (fun u => cat6 (u 0) (u 1) (u 2) (u 3) (u 4) (u 5)),
    unary main_arg0 main_v51 ((extractStridedSlice S4x4096x32x1 ![0, 0, 0, 2] · slices_S4x4096x32x3_S4x4096x32x1_0_0_0_2) : (⟨S4x4096x32x3, .f32⟩ : BufTy).Contents (Elt F) → (⟨S4x4096x32x1, .f32⟩ : BufTy).Contents (Elt F)) ]

/-- The operations of the reference that write `main_v52` to `main_v67`. -/
abbrev seg4 : List (HloOp τ sig (Elt F)) :=
  [ reshape main_v51 main_v52 (rfl : (.f32 : EltTy) = .f32) shapeCasts_S4x4096x32x1_S524288x1,
    reshape main_v49 main_v53 (rfl : (.f32 : EltTy) = .f32) shapeCasts_S4x4096x32x6_S524288x6,
    reshape main_v50 main_v54 (rfl : (.f32 : EltTy) = .f32) shapeCasts_S4x4096x32x6_S524288x6,
    unary main_v53 main_v55 ((extractStridedSlice S524288x5 ![0, 1] · slices_S524288x6_S524288x5_0_1) : (⟨S524288x6, .f32⟩ : BufTy).Contents (Elt F) → (⟨S524288x5, .f32⟩ : BufTy).Contents (Elt F)),
    unary main_v53 main_v56 ((extractStridedSlice S524288x5 ![0, 0] · slices_S524288x6_S524288x5_0_0) : (⟨S524288x6, .f32⟩ : BufTy).Contents (Elt F) → (⟨S524288x5, .f32⟩ : BufTy).Contents (Elt F)),
    unary main_v54 main_v57 ((extractStridedSlice S524288x5 ![0, 1] · slices_S524288x6_S524288x5_0_1) : (⟨S524288x6, .f32⟩ : BufTy).Contents (Elt F) → (⟨S524288x5, .f32⟩ : BufTy).Contents (Elt F)),
    unary main_v54 main_v58 ((extractStridedSlice S524288x5 ![0, 0] · slices_S524288x6_S524288x5_0_0) : (⟨S524288x6, .f32⟩ : BufTy).Contents (Elt F) → (⟨S524288x5, .f32⟩ : BufTy).Contents (Elt F)),
    unary main_v56 main_v59 ((extractStridedSlice S524288x1 ![0, 0] · slices_S524288x5_S524288x1_0_0) : (⟨S524288x5, .f32⟩ : BufTy).Contents (Elt F) → (⟨S524288x1, .f32⟩ : BufTy).Contents (Elt F)),
    nullary main_cst_7 (constant S_ .f32 0x3F7D70A4#32),
    unary main_cst_7 main_v60 (broadcastInDim S524288x1 ![] bcast_S_S524288x1 : (⟨S_, .f32⟩ : BufTy).Contents (Elt F) → (⟨S524288x1, .f32⟩ : BufTy).Contents (Elt F)),
    binary main_v59 main_v60 main_v61 (mulf : (⟨S524288x1, .f32⟩ : BufTy).Contents (Elt F) → (⟨S524288x1, .f32⟩ : BufTy).Contents (Elt F) → (⟨S524288x1, .f32⟩ : BufTy).Contents (Elt F)),
    unary main_v55 main_v62 ((extractStridedSlice S524288x1 ![0, 4] · slices_S524288x5_S524288x1_0_4) : (⟨S524288x5, .f32⟩ : BufTy).Contents (Elt F) → (⟨S524288x1, .f32⟩ : BufTy).Contents (Elt F)),
    nullary main_cst_8 (constant S_ .f32 0x3F7D70A4#32),
    unary main_cst_8 main_v63 (broadcastInDim S524288x1 ![] bcast_S_S524288x1 : (⟨S_, .f32⟩ : BufTy).Contents (Elt F) → (⟨S524288x1, .f32⟩ : BufTy).Contents (Elt F)),
    binary main_v62 main_v63 main_v64 (mulf : (⟨S524288x1, .f32⟩ : BufTy).Contents (Elt F) → (⟨S524288x1, .f32⟩ : BufTy).Contents (Elt F) → (⟨S524288x1, .f32⟩ : BufTy).Contents (Elt F)),
    TRef.binary (TRef.of (T := ⟨S524288x1, .f32⟩) main_v61) (TRef.of (T := ⟨S524288x1, .f32⟩) main_v52) (TRef.of (T := ⟨S524288x1, .f32⟩) main_call2_v0) maximumf,
    TRef.binary (TRef.of (T := ⟨S524288x1, .f32⟩) main_v64) (TRef.of (T := ⟨S524288x1, .f32⟩) main_call2_v0) (TRef.of (T := ⟨S524288x1, .f32⟩) main_v65) minimumf,
    binary main_v65 main_v52 main_v66 (subf : (⟨S524288x1, .f32⟩ : BufTy).Contents (Elt F) → (⟨S524288x1, .f32⟩ : BufTy).Contents (Elt F) → (⟨S524288x1, .f32⟩ : BufTy).Contents (Elt F)),
    binary main_v52 main_v66 main_v67 (addf : (⟨S524288x1, .f32⟩ : BufTy).Contents (Elt F) → (⟨S524288x1, .f32⟩ : BufTy).Contents (Elt F) → (⟨S524288x1, .f32⟩ : BufTy).Contents (Elt F)) ]

/-- The operations of the reference that write `main_v68` to `main_v73`. -/
abbrev seg5 : List (HloOp τ sig (Elt F)) :=
  [ unary main_v67 main_v68 (broadcastInDim S524288x5 ![0, 1] bcast_S524288x1_S524288x5_0_1 : (⟨S524288x1, .f32⟩ : BufTy).Contents (Elt F) → (⟨S524288x5, .f32⟩ : BufTy).Contents (Elt F)),
    binary main_v68 main_v56 main_v69 (cmpf .oge : (⟨S524288x5, .f32⟩ : BufTy).Contents (Elt F) → (⟨S524288x5, .f32⟩ : BufTy).Contents (Elt F) → (⟨S524288x5, .i1⟩ : BufTy).Contents (Elt F)),
    unary main_v67 main_v70 (broadcastInDim S524288x5 ![0, 1] bcast_S524288x1_S524288x5_0_1 : (⟨S524288x1, .f32⟩ : BufTy).Contents (Elt F) → (⟨S524288x5, .f32⟩ : BufTy).Contents (Elt F)),
    binary main_v70 main_v55 main_v71 (cmpf .olt : (⟨S524288x5, .f32⟩ : BufTy).Contents (Elt F) → (⟨S524288x5, .f32⟩ : BufTy).Contents (Elt F) → (⟨S524288x5, .i1⟩ : BufTy).Contents (Elt F)),
    binary main_v69 main_v71 main_v72 (andi : (⟨S524288x5, .i1⟩ : BufTy).Contents (Elt F) → (⟨S524288x5, .i1⟩ : BufTy).Contents (Elt F) → (⟨S524288x5, .i1⟩ : BufTy).Contents (Elt F)),
    TRef.nullary (TRef.of (T := ⟨S524288x5, .i32⟩) main_call3_v0) (iotaInDim S524288x5 32 1),
    TRef.nullary (TRef.of (T := ⟨S_, .i1⟩) main_call3_c) (constantI S_ 1 0#1),
    TRef.nullary (TRef.of (T := ⟨S_, .i32⟩) main_call3_c_0) (constantI S_ 32 0#32),
    TRef.quaternary (TRef.of (T := ⟨S524288x5, .i1⟩) main_v72) (TRef.of (T := ⟨S524288x5, .i32⟩) main_call3_v0) (TRef.of (T := ⟨S_, .i1⟩) main_call3_c) (TRef.of (T := ⟨S_, .i32⟩) main_call3_c_0) (TRef.of (T := ⟨S524288, .i1⟩) main_call3_v1_0) (fun x y u v j => (Host.reduce2 reducer_argmax_i1_i32 x y u v reducesTo_S524288x5_S524288_d1 h_S_ j).1),
    TRef.quaternary (TRef.of (T := ⟨S524288x5, .i1⟩) main_v72) (TRef.of (T := ⟨S524288x5, .i32⟩) main_call3_v0) (TRef.of (T := ⟨S_, .i1⟩) main_call3_c) (TRef.of (T := ⟨S_, .i32⟩) main_call3_c_0) (TRef.of (T := ⟨S524288, .i32⟩) main_v73) (fun x y u v j => (Host.reduce2 reducer_argmax_i1_i32 x y u v reducesTo_S524288x5_S524288_d1 h_S_ j).2) ]

/-- The operations of the reference that write `main_v74` to `main_v76`. -/
abbrev seg6 : List (HloOp τ sig (Elt F)) :=
  [ unary main_v73 main_v74 (broadcastInDim S524288x1 ![0] bcast_S524288_S524288x1_0 : (⟨S524288, .i32⟩ : BufTy).Contents (Elt F) → (⟨S524288x1, .i32⟩ : BufTy).Contents (Elt F)),
    TRef.nullary (TRef.of (T := ⟨S_, .i32⟩) main_call4_c) (constantI S_ 32 0#32),
    TRef.unary (TRef.of (T := ⟨S_, .i32⟩) main_call4_c) (TRef.of (T := ⟨S524288x1, .i32⟩) main_call4_v0) (broadcastInDim S524288x1 ![] bcast_S_S524288x1),
    TRef.binary (TRef.of (T := ⟨S524288x1, .i32⟩) main_v74) (TRef.of (T := ⟨S524288x1, .i32⟩) main_call4_v0) (TRef.of (T := ⟨S524288x1, .i1⟩) main_call4_v1) (cmpi .slt),
    TRef.nullary (TRef.of (T := ⟨S_, .i32⟩) main_call4_c_0) (constantI S_ 32 5#32),
    TRef.unary (TRef.of (T := ⟨S_, .i32⟩) main_call4_c_0) (TRef.of (T := ⟨S524288x1, .i32⟩) main_call4_v2) (broadcastInDim S524288x1 ![] bcast_S_S524288x1),
    TRef.binary (TRef.of (T := ⟨S524288x1, .i32⟩) main_v74) (TRef.of (T := ⟨S524288x1, .i32⟩) main_call4_v2) (TRef.of (T := ⟨S524288x1, .i32⟩) main_call4_v3) addi,
    TRef.ternary (TRef.of (T := ⟨S524288x1, .i1⟩) main_call4_v1) (TRef.of (T := ⟨S524288x1, .i32⟩) main_call4_v3) (TRef.of (T := ⟨S524288x1, .i32⟩) main_v74) (TRef.of (T := ⟨S524288x1, .i32⟩) main_call4_v4) select,
    TRef.reshape (TRef.of (T := ⟨S524288x1, .i32⟩) main_call4_v4) (TRef.of (T := ⟨S524288x1x1, .i32⟩) main_call4_v5) (rfl : (.i32 : EltTy) = .i32) shapeCasts_S524288x1_S524288x1x1,
    TRef.nullary (TRef.of (T := ⟨S1, .i32⟩) main_call4_c_1) (constantI S1 32 4#32),
    TRef.nullary (TRef.of (T := ⟨S_, .i32⟩) main_call4_c_2) (constantI S_ 32 0#32),
    TRef.unary (TRef.of (T := ⟨S_, .i32⟩) main_call4_c_2) (TRef.of (T := ⟨S524288x1x1, .i32⟩) main_call4_v6) (broadcastInDim S524288x1x1 ![] bcast_S_S524288x1x1),
    TRef.binary (TRef.of (T := ⟨S524288x1x1, .i32⟩) main_call4_v5) (TRef.of (T := ⟨S524288x1x1, .i32⟩) main_call4_v6) (TRef.of (T := ⟨S524288x1x1, .i1⟩) main_call4_v7) (cmpi .sge),
    TRef.unary (TRef.of (T := ⟨S1, .i32⟩) main_call4_c_1) (TRef.of (T := ⟨S1x1x1, .i32⟩) main_call4_v8) (broadcastInDim S1x1x1 ![2] bcast_S1_S1x1x1_2),
    TRef.unary (TRef.of (T := ⟨S1x1x1, .i32⟩) main_call4_v8) (TRef.of (T := ⟨S524288x1x1, .i32⟩) main_call4_v9) (broadcastInDim S524288x1x1 ![0, 1, 2] bcast_S1x1x1_S524288x1x1_0_1_2),
    TRef.binary (TRef.of (T := ⟨S524288x1x1, .i32⟩) main_call4_v5) (TRef.of (T := ⟨S524288x1x1, .i32⟩) main_call4_v9) (TRef.of (T := ⟨S524288x1x1, .i1⟩) main_call4_v10) (cmpi .sle),
    TRef.binary (TRef.of (T := ⟨S524288x1x1, .i1⟩) main_call4_v7) (TRef.of (T := ⟨S524288x1x1, .i1⟩) main_call4_v10) (TRef.of (T := ⟨S524288x1x1, .i1⟩) main_call4_v11) andi,
    TRef.nullary (TRef.of (T := ⟨S_, .i1⟩) main_call4_c_3) (constantI S_ 1 1#1),
    TRef.binary (TRef.of (T := ⟨S524288x1x1, .i1⟩) main_call4_v11) (TRef.of (T := ⟨S_, .i1⟩) main_call4_c_3) (TRef.of (T := ⟨S524288x1, .i1⟩) main_call4_v12) (fun x v => Host.reduce IntOp.andi x v reducesTo_S524288x1x1_S524288x1_d2 h_S_),
    TRef.binary (TRef.of (T := ⟨S524288x5, .f32⟩) main_v55) (TRef.of (T := ⟨S524288x1x1, .i32⟩) main_call4_v5) (TRef.of (T := ⟨S524288x1, .f32⟩) main_call4_v13) (fun x i => Host.gather gather_S524288x5_S524288x1x1_S524288x1_n_1_0_0_1_2_11 x i),
    TRef.nullary (TRef.of (T := ⟨S_, .f32⟩) main_call4_cst) (constant S_ .f32 0x7FC00000#32),
    TRef.unary (TRef.of (T := ⟨S_, .f32⟩) main_call4_cst) (TRef.of (T := ⟨S524288x1, .f32⟩) main_call4_v14) (broadcastInDim S524288x1 ![] bcast_S_S524288x1),
    TRef.ternary (TRef.of (T := ⟨S524288x1, .i1⟩) main_call4_v12) (TRef.of (T := ⟨S524288x1, .f32⟩) main_call4_v13) (TRef.of (T := ⟨S524288x1, .f32⟩) main_call4_v14) (TRef.of (T := ⟨S524288x1, .f32⟩) main_v75) select,
    reshape main_v75 main_v76 (rfl : (.f32 : EltTy) = .f32) shapeCasts_S524288x1_S524288 ]

/-- The operations of the reference that write `main_v77` to `main_v79`. -/
abbrev seg7 : List (HloOp τ sig (Elt F)) :=
  [ unary main_v73 main_v77 (broadcastInDim S524288x1 ![0] bcast_S524288_S524288x1_0 : (⟨S524288, .i32⟩ : BufTy).Contents (Elt F) → (⟨S524288x1, .i32⟩ : BufTy).Contents (Elt F)),
    TRef.nullary (TRef.of (T := ⟨S_, .i32⟩) main_call5_c) (constantI S_ 32 0#32),
    TRef.unary (TRef.of (T := ⟨S_, .i32⟩) main_call5_c) (TRef.of (T := ⟨S524288x1, .i32⟩) main_call5_v0) (broadcastInDim S524288x1 ![] bcast_S_S524288x1),
    TRef.binary (TRef.of (T := ⟨S524288x1, .i32⟩) main_v77) (TRef.of (T := ⟨S524288x1, .i32⟩) main_call5_v0) (TRef.of (T := ⟨S524288x1, .i1⟩) main_call5_v1) (cmpi .slt),
    TRef.nullary (TRef.of (T := ⟨S_, .i32⟩) main_call5_c_0) (constantI S_ 32 5#32),
    TRef.unary (TRef.of (T := ⟨S_, .i32⟩) main_call5_c_0) (TRef.of (T := ⟨S524288x1, .i32⟩) main_call5_v2) (broadcastInDim S524288x1 ![] bcast_S_S524288x1),
    TRef.binary (TRef.of (T := ⟨S524288x1, .i32⟩) main_v77) (TRef.of (T := ⟨S524288x1, .i32⟩) main_call5_v2) (TRef.of (T := ⟨S524288x1, .i32⟩) main_call5_v3) addi,
    TRef.ternary (TRef.of (T := ⟨S524288x1, .i1⟩) main_call5_v1) (TRef.of (T := ⟨S524288x1, .i32⟩) main_call5_v3) (TRef.of (T := ⟨S524288x1, .i32⟩) main_v77) (TRef.of (T := ⟨S524288x1, .i32⟩) main_call5_v4) select,
    TRef.reshape (TRef.of (T := ⟨S524288x1, .i32⟩) main_call5_v4) (TRef.of (T := ⟨S524288x1x1, .i32⟩) main_call5_v5) (rfl : (.i32 : EltTy) = .i32) shapeCasts_S524288x1_S524288x1x1,
    TRef.nullary (TRef.of (T := ⟨S1, .i32⟩) main_call5_c_1) (constantI S1 32 4#32),
    TRef.nullary (TRef.of (T := ⟨S_, .i32⟩) main_call5_c_2) (constantI S_ 32 0#32),
    TRef.unary (TRef.of (T := ⟨S_, .i32⟩) main_call5_c_2) (TRef.of (T := ⟨S524288x1x1, .i32⟩) main_call5_v6) (broadcastInDim S524288x1x1 ![] bcast_S_S524288x1x1),
    TRef.binary (TRef.of (T := ⟨S524288x1x1, .i32⟩) main_call5_v5) (TRef.of (T := ⟨S524288x1x1, .i32⟩) main_call5_v6) (TRef.of (T := ⟨S524288x1x1, .i1⟩) main_call5_v7) (cmpi .sge),
    TRef.unary (TRef.of (T := ⟨S1, .i32⟩) main_call5_c_1) (TRef.of (T := ⟨S1x1x1, .i32⟩) main_call5_v8) (broadcastInDim S1x1x1 ![2] bcast_S1_S1x1x1_2),
    TRef.unary (TRef.of (T := ⟨S1x1x1, .i32⟩) main_call5_v8) (TRef.of (T := ⟨S524288x1x1, .i32⟩) main_call5_v9) (broadcastInDim S524288x1x1 ![0, 1, 2] bcast_S1x1x1_S524288x1x1_0_1_2),
    TRef.binary (TRef.of (T := ⟨S524288x1x1, .i32⟩) main_call5_v5) (TRef.of (T := ⟨S524288x1x1, .i32⟩) main_call5_v9) (TRef.of (T := ⟨S524288x1x1, .i1⟩) main_call5_v10) (cmpi .sle),
    TRef.binary (TRef.of (T := ⟨S524288x1x1, .i1⟩) main_call5_v7) (TRef.of (T := ⟨S524288x1x1, .i1⟩) main_call5_v10) (TRef.of (T := ⟨S524288x1x1, .i1⟩) main_call5_v11) andi,
    TRef.nullary (TRef.of (T := ⟨S_, .i1⟩) main_call5_c_3) (constantI S_ 1 1#1),
    TRef.binary (TRef.of (T := ⟨S524288x1x1, .i1⟩) main_call5_v11) (TRef.of (T := ⟨S_, .i1⟩) main_call5_c_3) (TRef.of (T := ⟨S524288x1, .i1⟩) main_call5_v12) (fun x v => Host.reduce IntOp.andi x v reducesTo_S524288x1x1_S524288x1_d2 h_S_),
    TRef.binary (TRef.of (T := ⟨S524288x5, .f32⟩) main_v56) (TRef.of (T := ⟨S524288x1x1, .i32⟩) main_call5_v5) (TRef.of (T := ⟨S524288x1, .f32⟩) main_call5_v13) (fun x i => Host.gather gather_S524288x5_S524288x1x1_S524288x1_n_1_0_0_1_2_11 x i),
    TRef.nullary (TRef.of (T := ⟨S_, .f32⟩) main_call5_cst) (constant S_ .f32 0x7FC00000#32),
    TRef.unary (TRef.of (T := ⟨S_, .f32⟩) main_call5_cst) (TRef.of (T := ⟨S524288x1, .f32⟩) main_call5_v14) (broadcastInDim S524288x1 ![] bcast_S_S524288x1),
    TRef.ternary (TRef.of (T := ⟨S524288x1, .i1⟩) main_call5_v12) (TRef.of (T := ⟨S524288x1, .f32⟩) main_call5_v13) (TRef.of (T := ⟨S524288x1, .f32⟩) main_call5_v14) (TRef.of (T := ⟨S524288x1, .f32⟩) main_v78) select,
    reshape main_v78 main_v79 (rfl : (.f32 : EltTy) = .f32) shapeCasts_S524288x1_S524288 ]

/-- The operations of the reference that write `main_v80` to `main_v82`. -/
abbrev seg8 : List (HloOp τ sig (Elt F)) :=
  [ unary main_v73 main_v80 (broadcastInDim S524288x1 ![0] bcast_S524288_S524288x1_0 : (⟨S524288, .i32⟩ : BufTy).Contents (Elt F) → (⟨S524288x1, .i32⟩ : BufTy).Contents (Elt F)),
    TRef.nullary (TRef.of (T := ⟨S_, .i32⟩) main_call6_c) (constantI S_ 32 0#32),
    TRef.unary (TRef.of (T := ⟨S_, .i32⟩) main_call6_c) (TRef.of (T := ⟨S524288x1, .i32⟩) main_call6_v0) (broadcastInDim S524288x1 ![] bcast_S_S524288x1),
    TRef.binary (TRef.of (T := ⟨S524288x1, .i32⟩) main_v80) (TRef.of (T := ⟨S524288x1, .i32⟩) main_call6_v0) (TRef.of (T := ⟨S524288x1, .i1⟩) main_call6_v1) (cmpi .slt),
    TRef.nullary (TRef.of (T := ⟨S_, .i32⟩) main_call6_c_0) (constantI S_ 32 5#32),
    TRef.unary (TRef.of (T := ⟨S_, .i32⟩) main_call6_c_0) (TRef.of (T := ⟨S524288x1, .i32⟩) main_call6_v2) (broadcastInDim S524288x1 ![] bcast_S_S524288x1),
    TRef.binary (TRef.of (T := ⟨S524288x1, .i32⟩) main_v80) (TRef.of (T := ⟨S524288x1, .i32⟩) main_call6_v2) (TRef.of (T := ⟨S524288x1, .i32⟩) main_call6_v3) addi,
    TRef.ternary (TRef.of (T := ⟨S524288x1, .i1⟩) main_call6_v1) (TRef.of (T := ⟨S524288x1, .i32⟩) main_call6_v3) (TRef.of (T := ⟨S524288x1, .i32⟩) main_v80) (TRef.of (T := ⟨S524288x1, .i32⟩) main_call6_v4) select,
    TRef.reshape (TRef.of (T := ⟨S524288x1, .i32⟩) main_call6_v4) (TRef.of (T := ⟨S524288x1x1, .i32⟩) main_call6_v5) (rfl : (.i32 : EltTy) = .i32) shapeCasts_S524288x1_S524288x1x1,
    TRef.nullary (TRef.of (T := ⟨S1, .i32⟩) main_call6_c_1) (constantI S1 32 4#32),
    TRef.nullary (TRef.of (T := ⟨S_, .i32⟩) main_call6_c_2) (constantI S_ 32 0#32),
    TRef.unary (TRef.of (T := ⟨S_, .i32⟩) main_call6_c_2) (TRef.of (T := ⟨S524288x1x1, .i32⟩) main_call6_v6) (broadcastInDim S524288x1x1 ![] bcast_S_S524288x1x1),
    TRef.binary (TRef.of (T := ⟨S524288x1x1, .i32⟩) main_call6_v5) (TRef.of (T := ⟨S524288x1x1, .i32⟩) main_call6_v6) (TRef.of (T := ⟨S524288x1x1, .i1⟩) main_call6_v7) (cmpi .sge),
    TRef.unary (TRef.of (T := ⟨S1, .i32⟩) main_call6_c_1) (TRef.of (T := ⟨S1x1x1, .i32⟩) main_call6_v8) (broadcastInDim S1x1x1 ![2] bcast_S1_S1x1x1_2),
    TRef.unary (TRef.of (T := ⟨S1x1x1, .i32⟩) main_call6_v8) (TRef.of (T := ⟨S524288x1x1, .i32⟩) main_call6_v9) (broadcastInDim S524288x1x1 ![0, 1, 2] bcast_S1x1x1_S524288x1x1_0_1_2),
    TRef.binary (TRef.of (T := ⟨S524288x1x1, .i32⟩) main_call6_v5) (TRef.of (T := ⟨S524288x1x1, .i32⟩) main_call6_v9) (TRef.of (T := ⟨S524288x1x1, .i1⟩) main_call6_v10) (cmpi .sle),
    TRef.binary (TRef.of (T := ⟨S524288x1x1, .i1⟩) main_call6_v7) (TRef.of (T := ⟨S524288x1x1, .i1⟩) main_call6_v10) (TRef.of (T := ⟨S524288x1x1, .i1⟩) main_call6_v11) andi,
    TRef.nullary (TRef.of (T := ⟨S_, .i1⟩) main_call6_c_3) (constantI S_ 1 1#1),
    TRef.binary (TRef.of (T := ⟨S524288x1x1, .i1⟩) main_call6_v11) (TRef.of (T := ⟨S_, .i1⟩) main_call6_c_3) (TRef.of (T := ⟨S524288x1, .i1⟩) main_call6_v12) (fun x v => Host.reduce IntOp.andi x v reducesTo_S524288x1x1_S524288x1_d2 h_S_),
    TRef.binary (TRef.of (T := ⟨S524288x5, .f32⟩) main_v57) (TRef.of (T := ⟨S524288x1x1, .i32⟩) main_call6_v5) (TRef.of (T := ⟨S524288x1, .f32⟩) main_call6_v13) (fun x i => Host.gather gather_S524288x5_S524288x1x1_S524288x1_n_1_0_0_1_2_11 x i),
    TRef.nullary (TRef.of (T := ⟨S_, .f32⟩) main_call6_cst) (constant S_ .f32 0x7FC00000#32),
    TRef.unary (TRef.of (T := ⟨S_, .f32⟩) main_call6_cst) (TRef.of (T := ⟨S524288x1, .f32⟩) main_call6_v14) (broadcastInDim S524288x1 ![] bcast_S_S524288x1),
    TRef.ternary (TRef.of (T := ⟨S524288x1, .i1⟩) main_call6_v12) (TRef.of (T := ⟨S524288x1, .f32⟩) main_call6_v13) (TRef.of (T := ⟨S524288x1, .f32⟩) main_call6_v14) (TRef.of (T := ⟨S524288x1, .f32⟩) main_v81) select,
    reshape main_v81 main_v82 (rfl : (.f32 : EltTy) = .f32) shapeCasts_S524288x1_S524288 ]

/-- The operations of the reference that write `main_v83` to `main_v85`. -/
abbrev seg9 : List (HloOp τ sig (Elt F)) :=
  [ unary main_v73 main_v83 (broadcastInDim S524288x1 ![0] bcast_S524288_S524288x1_0 : (⟨S524288, .i32⟩ : BufTy).Contents (Elt F) → (⟨S524288x1, .i32⟩ : BufTy).Contents (Elt F)),
    TRef.nullary (TRef.of (T := ⟨S_, .i32⟩) main_call7_c) (constantI S_ 32 0#32),
    TRef.unary (TRef.of (T := ⟨S_, .i32⟩) main_call7_c) (TRef.of (T := ⟨S524288x1, .i32⟩) main_call7_v0) (broadcastInDim S524288x1 ![] bcast_S_S524288x1),
    TRef.binary (TRef.of (T := ⟨S524288x1, .i32⟩) main_v83) (TRef.of (T := ⟨S524288x1, .i32⟩) main_call7_v0) (TRef.of (T := ⟨S524288x1, .i1⟩) main_call7_v1) (cmpi .slt),
    TRef.nullary (TRef.of (T := ⟨S_, .i32⟩) main_call7_c_0) (constantI S_ 32 5#32),
    TRef.unary (TRef.of (T := ⟨S_, .i32⟩) main_call7_c_0) (TRef.of (T := ⟨S524288x1, .i32⟩) main_call7_v2) (broadcastInDim S524288x1 ![] bcast_S_S524288x1),
    TRef.binary (TRef.of (T := ⟨S524288x1, .i32⟩) main_v83) (TRef.of (T := ⟨S524288x1, .i32⟩) main_call7_v2) (TRef.of (T := ⟨S524288x1, .i32⟩) main_call7_v3) addi,
    TRef.ternary (TRef.of (T := ⟨S524288x1, .i1⟩) main_call7_v1) (TRef.of (T := ⟨S524288x1, .i32⟩) main_call7_v3) (TRef.of (T := ⟨S524288x1, .i32⟩) main_v83) (TRef.of (T := ⟨S524288x1, .i32⟩) main_call7_v4) select,
    TRef.reshape (TRef.of (T := ⟨S524288x1, .i32⟩) main_call7_v4) (TRef.of (T := ⟨S524288x1x1, .i32⟩) main_call7_v5) (rfl : (.i32 : EltTy) = .i32) shapeCasts_S524288x1_S524288x1x1,
    TRef.nullary (TRef.of (T := ⟨S1, .i32⟩) main_call7_c_1) (constantI S1 32 4#32),
    TRef.nullary (TRef.of (T := ⟨S_, .i32⟩) main_call7_c_2) (constantI S_ 32 0#32),
    TRef.unary (TRef.of (T := ⟨S_, .i32⟩) main_call7_c_2) (TRef.of (T := ⟨S524288x1x1, .i32⟩) main_call7_v6) (broadcastInDim S524288x1x1 ![] bcast_S_S524288x1x1),
    TRef.binary (TRef.of (T := ⟨S524288x1x1, .i32⟩) main_call7_v5) (TRef.of (T := ⟨S524288x1x1, .i32⟩) main_call7_v6) (TRef.of (T := ⟨S524288x1x1, .i1⟩) main_call7_v7) (cmpi .sge),
    TRef.unary (TRef.of (T := ⟨S1, .i32⟩) main_call7_c_1) (TRef.of (T := ⟨S1x1x1, .i32⟩) main_call7_v8) (broadcastInDim S1x1x1 ![2] bcast_S1_S1x1x1_2),
    TRef.unary (TRef.of (T := ⟨S1x1x1, .i32⟩) main_call7_v8) (TRef.of (T := ⟨S524288x1x1, .i32⟩) main_call7_v9) (broadcastInDim S524288x1x1 ![0, 1, 2] bcast_S1x1x1_S524288x1x1_0_1_2),
    TRef.binary (TRef.of (T := ⟨S524288x1x1, .i32⟩) main_call7_v5) (TRef.of (T := ⟨S524288x1x1, .i32⟩) main_call7_v9) (TRef.of (T := ⟨S524288x1x1, .i1⟩) main_call7_v10) (cmpi .sle),
    TRef.binary (TRef.of (T := ⟨S524288x1x1, .i1⟩) main_call7_v7) (TRef.of (T := ⟨S524288x1x1, .i1⟩) main_call7_v10) (TRef.of (T := ⟨S524288x1x1, .i1⟩) main_call7_v11) andi,
    TRef.nullary (TRef.of (T := ⟨S_, .i1⟩) main_call7_c_3) (constantI S_ 1 1#1),
    TRef.binary (TRef.of (T := ⟨S524288x1x1, .i1⟩) main_call7_v11) (TRef.of (T := ⟨S_, .i1⟩) main_call7_c_3) (TRef.of (T := ⟨S524288x1, .i1⟩) main_call7_v12) (fun x v => Host.reduce IntOp.andi x v reducesTo_S524288x1x1_S524288x1_d2 h_S_),
    TRef.binary (TRef.of (T := ⟨S524288x5, .f32⟩) main_v58) (TRef.of (T := ⟨S524288x1x1, .i32⟩) main_call7_v5) (TRef.of (T := ⟨S524288x1, .f32⟩) main_call7_v13) (fun x i => Host.gather gather_S524288x5_S524288x1x1_S524288x1_n_1_0_0_1_2_11 x i),
    TRef.nullary (TRef.of (T := ⟨S_, .f32⟩) main_call7_cst) (constant S_ .f32 0x7FC00000#32),
    TRef.unary (TRef.of (T := ⟨S_, .f32⟩) main_call7_cst) (TRef.of (T := ⟨S524288x1, .f32⟩) main_call7_v14) (broadcastInDim S524288x1 ![] bcast_S_S524288x1),
    TRef.ternary (TRef.of (T := ⟨S524288x1, .i1⟩) main_call7_v12) (TRef.of (T := ⟨S524288x1, .f32⟩) main_call7_v13) (TRef.of (T := ⟨S524288x1, .f32⟩) main_call7_v14) (TRef.of (T := ⟨S524288x1, .f32⟩) main_v84) select,
    reshape main_v84 main_v85 (rfl : (.f32 : EltTy) = .f32) shapeCasts_S524288x1_S524288 ]

/-- The operations of the reference that write `main_v86` to `main_v98`. -/
abbrev seg10 : List (HloOp τ sig (Elt F)) :=
  [ binary main_v82 main_v85 main_v86 (subf : (⟨S524288, .f32⟩ : BufTy).Contents (Elt F) → (⟨S524288, .f32⟩ : BufTy).Contents (Elt F) → (⟨S524288, .f32⟩ : BufTy).Contents (Elt F)),
    binary main_v76 main_v79 main_v87 (subf : (⟨S524288, .f32⟩ : BufTy).Contents (Elt F) → (⟨S524288, .f32⟩ : BufTy).Contents (Elt F) → (⟨S524288, .f32⟩ : BufTy).Contents (Elt F)),
    binary main_v86 main_v87 main_v88 (Host.divf : (⟨S524288, .f32⟩ : BufTy).Contents (Elt F) → (⟨S524288, .f32⟩ : BufTy).Contents (Elt F) → (⟨S524288, .f32⟩ : BufTy).Contents (Elt F)),
    reshape main_v67 main_v89 (rfl : (.f32 : EltTy) = .f32) shapeCasts_S524288x1_S524288,
    binary main_v89 main_v79 main_v90 (subf : (⟨S524288, .f32⟩ : BufTy).Contents (Elt F) → (⟨S524288, .f32⟩ : BufTy).Contents (Elt F) → (⟨S524288, .f32⟩ : BufTy).Contents (Elt F)),
    binary main_v88 main_v90 main_v91 (mulf : (⟨S524288, .f32⟩ : BufTy).Contents (Elt F) → (⟨S524288, .f32⟩ : BufTy).Contents (Elt F) → (⟨S524288, .f32⟩ : BufTy).Contents (Elt F)),
    binary main_v91 main_v85 main_v92 (addf : (⟨S524288, .f32⟩ : BufTy).Contents (Elt F) → (⟨S524288, .f32⟩ : BufTy).Contents (Elt F) → (⟨S524288, .f32⟩ : BufTy).Contents (Elt F)),
    reshape main_v92 main_v93 (rfl : (.f32 : EltTy) = .f32) shapeCasts_S524288_S4x4096x32,
    unary main_cst main_v94 (broadcastInDim S1x1x1x3 ![3] bcast_S3_S1x1x1x3_3 : (⟨S3, .f32⟩ : BufTy).Contents (Elt F) → (⟨S1x1x1x3, .f32⟩ : BufTy).Contents (Elt F)),
    unary main_v94 main_v95 (broadcastInDim S4x4096x32x3 ![0, 1, 2, 3] bcast_S1x1x1x3_S4x4096x32x3_0_1_2_3 : (⟨S1x1x1x3, .f32⟩ : BufTy).Contents (Elt F) → (⟨S4x4096x32x3, .f32⟩ : BufTy).Contents (Elt F)),
    binary main_arg0 main_v95 main_v96 (mulf : (⟨S4x4096x32x3, .f32⟩ : BufTy).Contents (Elt F) → (⟨S4x4096x32x3, .f32⟩ : BufTy).Contents (Elt F) → (⟨S4x4096x32x3, .f32⟩ : BufTy).Contents (Elt F)),
    nullary main_c (constantI S_ 32 2#32),
    unary main_c main_v97 (broadcastInDim S1 ![] bcast_S_S1 : (⟨S_, .i32⟩ : BufTy).Contents (Elt F) → (⟨S1, .i32⟩ : BufTy).Contents (Elt F)),
    ternary main_v96 main_v97 main_v93 main_v98 ((fun x i u => Host.scatter scatter_S4x4096x32x3_S1_S4x4096x32_012_3_3_0 (fun _ b => b) x i u) : (⟨S4x4096x32x3, .f32⟩ : BufTy).Contents (Elt F) → (⟨S1, .i32⟩ : BufTy).Contents (Elt F) → (⟨S4x4096x32, .f32⟩ : BufTy).Contents (Elt F) → (⟨S4x4096x32x3, .f32⟩ : BufTy).Contents (Elt F)) ]

/-- The operations of the first window. -/
def opsA : List (HloOp τ sig (Elt F)) := seg0 ++ (seg1 ++ (seg2 ++ seg3))

/-- The operations of the second window. -/
def opsB : List (HloOp τ sig (Elt F)) := seg4 ++ (seg5 ++ (seg6 ++ (seg7 ++ (seg8 ++ (seg9 ++ seg10)))))

/-- All operations of the reference. -/
def ops : List (HloOp τ sig (Elt F)) := opsA ++ opsB

set_option maxRecDepth 16384 in
set_option maxHeartbeats 4000000 in
/-- The first part of the program is its operations in order. -/
theorem part0_eq (c : Dev nD) : main_part0 (F := F) c = seq opsA := rfl

set_option maxRecDepth 16384 in
set_option maxHeartbeats 4000000 in
/-- The second part of the program is its operations in order. -/
theorem part1_eq (c : Dev nD) : main_part1 (F := F) c = seq opsB := rfl

set_option maxRecDepth 16384 in
set_option maxHeartbeats 4000000 in
/-- The reference is its operations, in order. -/
theorem main_eq (c : Dev nD) : main (F := F) c = seq ops := by
  simp only [ops, seq_append, ← part0_eq c, ← part1_eq c]
  rfl

/-- The program has no scoped buffers. -/
theorem noScopedRefs : (Finset.univ.filter fun b : Ref sig .tc => b.isScoped) = ∅ := by decide

/-- The program has no scoped counters. -/
theorem noScopedSems : (Finset.univ.filter fun sm : SemLoc sig => sm.isScoped .tc) = ∅ := by decide

set_option maxRecDepth 16384 in
set_option maxHeartbeats 4000000 in
/-- Every operation of stretch 0 touches only the buffers of the program. -/
theorem seg0_bufs : (seg0 : List (HloOp τ sig (Elt F))).Forall fun op => op.bufs ⊆ tcRefs τ sig :=
  ⟨nullary_bufs_sub .., unary_bufs_sub .., unary_bufs_sub .., unary_bufs_sub .., unary_bufs_sub .., binary_bufs_sub .., binary_bufs_sub .., unary_bufs_sub .., unary_bufs_sub .., binary_bufs_sub .., nullary_bufs_sub .., unary_bufs_sub .., binary_bufs_sub ..⟩

set_option maxRecDepth 16384 in
set_option maxHeartbeats 4000000 in
/-- No operation of stretch 0 takes a fresh buffer. -/
theorem seg0_fresh : (seg0 : List (HloOp τ sig (Elt F))).Forall fun op => op.fresh = ∅ :=
  ⟨rfl, rfl, rfl, rfl, rfl, rfl, rfl, rfl, rfl, rfl, rfl, rfl, rfl⟩

/-- The buffers that stretch 0 writes. -/
abbrev seg0_W : List (Ref sig .tc) := [main_cst, main_v0, main_v1, main_v2, main_v3, main_v4, main_v5, main_v6, main_v7, main_v8, main_call0_cst, main_call0_v0, main_v9]

set_option maxRecDepth 16384 in
set_option maxHeartbeats 4000000 in
/-- A buffer that stretch 0 does not write keeps its contents. -/
theorem seg0_keep (V : Valuation τ sig (Elt F)) (r : Ref sig .tc) (h : r ∉ seg0_W) :
    after seg0 V (no_index (Proc.devRef .tc r)) = V (Proc.devRef .tc r) :=
  after_unwritten seg0_W rfl h V

set_option maxRecDepth 16384 in
set_option maxHeartbeats 4000000 in
/-- Every operation of stretch 1 touches only the buffers of the program. -/
theorem seg1_bufs : (seg1 : List (HloOp τ sig (Elt F))).Forall fun op => op.bufs ⊆ tcRefs τ sig :=
  ⟨binary_bufs_sub .., unary_bufs_sub .., unary_bufs_sub .., binary_bufs_sub ..⟩

set_option maxRecDepth 16384 in
set_option maxHeartbeats 4000000 in
/-- No operation of stretch 1 takes a fresh buffer. -/
theorem seg1_fresh : (seg1 : List (HloOp τ sig (Elt F))).Forall fun op => op.fresh = ∅ :=
  ⟨rfl, rfl, rfl, rfl⟩

/-- The buffers that stretch 1 writes. -/
abbrev seg1_W : List (Ref sig .tc) := [main_v10, main_v11, main_v12, main_v13]

set_option maxRecDepth 16384 in
set_option maxHeartbeats 4000000 in
/-- A buffer that stretch 1 does not write keeps its contents. -/
theorem seg1_keep (V : Valuation τ sig (Elt F)) (r : Ref sig .tc) (h : r ∉ seg1_W) :
    after seg1 V (no_index (Proc.devRef .tc r)) = V (Proc.devRef .tc r) :=
  after_unwritten seg1_W rfl h V

set_option maxRecDepth 16384 in
set_option maxHeartbeats 4000000 in
/-- Every operation of stretch 2 touches only the buffers of the program. -/
theorem seg2_bufs : (seg2 : List (HloOp τ sig (Elt F))).Forall fun op => op.bufs ⊆ tcRefs τ sig :=
  ⟨nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., nullary_bufs_sub .., unary_bufs_sub .., binary_bufs_sub ..⟩

set_option maxRecDepth 16384 in
set_option maxHeartbeats 4000000 in
/-- No operation of stretch 2 takes a fresh buffer. -/
theorem seg2_fresh : (seg2 : List (HloOp τ sig (Elt F))).Forall fun op => op.fresh = ∅ :=
  ⟨rfl, rfl, rfl, rfl, rfl, rfl, rfl, rfl, rfl, rfl, rfl, rfl, rfl, rfl, rfl, rfl, rfl⟩

/-- The buffers that stretch 2 writes. -/
abbrev seg2_W : List (Ref sig .tc) := [main_call1_cst, main_call1_v0, main_call1_v1, main_call1_v2, main_call1_v3, main_call1_v4, main_call1_v5, main_call1_v6, main_call1_v7, main_call1_v8, main_call1_v9, main_call1_v10, main_call1_v11, main_v14, main_cst_0, main_v15, main_v16]

set_option maxRecDepth 16384 in
set_option maxHeartbeats 4000000 in
/-- A buffer that stretch 2 does not write keeps its contents. -/
theorem seg2_keep (V : Valuation τ sig (Elt F)) (r : Ref sig .tc) (h : r ∉ seg2_W) :
    after seg2 V (no_index (Proc.devRef .tc r)) = V (Proc.devRef .tc r) :=
  after_unwritten seg2_W rfl h V

set_option maxRecDepth 16384 in
set_option maxHeartbeats 4000000 in
/-- Every operation of stretch 3 touches only the buffers of the program. -/
theorem seg3_bufs : (seg3 : List (HloOp τ sig (Elt F))).Forall fun op => op.bufs ⊆ tcRefs τ sig :=
  ⟨unary_bufs_sub .., unary_bufs_sub .., unary_bufs_sub .., unary_bufs_sub .., unary_bufs_sub .., unary_bufs_sub .., unary_bufs_sub .., unary_bufs_sub .., unary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nary_bufs_sub .., nary_bufs_sub .., unary_bufs_sub ..⟩

set_option maxRecDepth 16384 in
set_option maxHeartbeats 4000000 in
/-- No operation of stretch 3 takes a fresh buffer. -/
theorem seg3_fresh : (seg3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers that stretch 3 writes. -/
abbrev seg3_W : List (Ref sig .tc) := [main_v17, main_v18, main_v19, main_v20, main_v21, main_v22, main_v23, main_v24, main_v25, main_v26, main_cst_1, main_v27, main_v28, main_cst_2, main_v29, main_v30, main_v31, main_v32, main_v33, main_v34, main_v35, main_v36, main_v37, main_v38, main_cst_3, main_v39, main_v40, main_cst_4, main_v41, main_v42, main_cst_5, main_v43, main_v44, main_v45, main_cst_6, main_v46, main_v47, main_v48, main_v49, main_v50, main_v51]

set_option maxRecDepth 16384 in
set_option maxHeartbeats 4000000 in
/-- A buffer that stretch 3 does not write keeps its contents. -/
theorem seg3_keep (V : Valuation τ sig (Elt F)) (r : Ref sig .tc) (h : r ∉ seg3_W) :
    after seg3 V (no_index (Proc.devRef .tc r)) = V (Proc.devRef .tc r) :=
  after_unwritten seg3_W rfl h V

set_option maxRecDepth 16384 in
set_option maxHeartbeats 4000000 in
/-- Every operation of stretch 4 touches only the buffers of the program. -/
theorem seg4_bufs : (seg4 : List (HloOp τ sig (Elt F))).Forall fun op => op.bufs ⊆ tcRefs τ sig :=
  ⟨reshape_bufs_sub .., reshape_bufs_sub .., reshape_bufs_sub .., unary_bufs_sub .., unary_bufs_sub .., unary_bufs_sub .., unary_bufs_sub .., unary_bufs_sub .., nullary_bufs_sub .., unary_bufs_sub .., binary_bufs_sub .., unary_bufs_sub .., nullary_bufs_sub .., unary_bufs_sub .., binary_bufs_sub .., binary_bufs_sub .., binary_bufs_sub .., binary_bufs_sub .., binary_bufs_sub ..⟩

set_option maxRecDepth 16384 in
set_option maxHeartbeats 4000000 in
/-- No operation of stretch 4 takes a fresh buffer. -/
theorem seg4_fresh : (seg4 : List (HloOp τ sig (Elt F))).Forall fun op => op.fresh = ∅ :=
  ⟨rfl, rfl, rfl, rfl, rfl, rfl, rfl, rfl, rfl, rfl, rfl, rfl, rfl, rfl, rfl, rfl, rfl, rfl, rfl⟩

/-- The buffers that stretch 4 writes. -/
abbrev seg4_W : List (Ref sig .tc) := [main_v52, main_v53, main_v54, main_v55, main_v56, main_v57, main_v58, main_v59, main_cst_7, main_v60, main_v61, main_v62, main_cst_8, main_v63, main_v64, main_call2_v0, main_v65, main_v66, main_v67]

set_option maxRecDepth 16384 in
set_option maxHeartbeats 4000000 in
/-- A buffer that stretch 4 does not write keeps its contents. -/
theorem seg4_keep (V : Valuation τ sig (Elt F)) (r : Ref sig .tc) (h : r ∉ seg4_W) :
    after seg4 V (no_index (Proc.devRef .tc r)) = V (Proc.devRef .tc r) :=
  after_unwritten seg4_W rfl h V

set_option maxRecDepth 16384 in
set_option maxHeartbeats 4000000 in
/-- Every operation of stretch 5 touches only the buffers of the program. -/
theorem seg5_bufs : (seg5 : List (HloOp τ sig (Elt F))).Forall fun op => op.bufs ⊆ tcRefs τ sig :=
  ⟨unary_bufs_sub .., binary_bufs_sub .., unary_bufs_sub .., binary_bufs_sub .., binary_bufs_sub .., nullary_bufs_sub .., nullary_bufs_sub .., nullary_bufs_sub .., quaternary_bufs_sub .., quaternary_bufs_sub ..⟩

set_option maxRecDepth 16384 in
set_option maxHeartbeats 4000000 in
/-- No operation of stretch 5 takes a fresh buffer. -/
theorem seg5_fresh : (seg5 : List (HloOp τ sig (Elt F))).Forall fun op => op.fresh = ∅ :=
  ⟨rfl, rfl, rfl, rfl, rfl, rfl, rfl, rfl, rfl, rfl⟩

/-- The buffers that stretch 5 writes. -/
abbrev seg5_W : List (Ref sig .tc) := [main_v68, main_v69, main_v70, main_v71, main_v72, main_call3_v0, main_call3_c, main_call3_c_0, main_call3_v1_0, main_v73]

set_option maxRecDepth 16384 in
set_option maxHeartbeats 4000000 in
/-- A buffer that stretch 5 does not write keeps its contents. -/
theorem seg5_keep (V : Valuation τ sig (Elt F)) (r : Ref sig .tc) (h : r ∉ seg5_W) :
    after seg5 V (no_index (Proc.devRef .tc r)) = V (Proc.devRef .tc r) :=
  after_unwritten seg5_W rfl h V

set_option maxRecDepth 16384 in
set_option maxHeartbeats 4000000 in
/-- Every operation of stretch 6 touches only the buffers of the program. -/
theorem seg6_bufs : (seg6 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub ..⟩

set_option maxRecDepth 16384 in
set_option maxHeartbeats 4000000 in
/-- No operation of stretch 6 takes a fresh buffer. -/
theorem seg6_fresh : (seg6 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl⟩

/-- The buffers that stretch 6 writes. -/
abbrev seg6_W : List (Ref sig .tc) := [main_v74, main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_cst, main_call4_v14, main_v75, main_v76]

set_option maxRecDepth 16384 in
set_option maxHeartbeats 4000000 in
/-- A buffer that stretch 6 does not write keeps its contents. -/
theorem seg6_keep (V : Valuation τ sig (Elt F)) (r : Ref sig .tc) (h : r ∉ seg6_W) :
    after seg6 V (no_index (Proc.devRef .tc r)) = V (Proc.devRef .tc r) :=
  after_unwritten seg6_W rfl h V

set_option maxRecDepth 16384 in
set_option maxHeartbeats 4000000 in
/-- Every operation of stretch 7 touches only the buffers of the program. -/
theorem seg7_bufs : (seg7 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub ..⟩

set_option maxRecDepth 16384 in
set_option maxHeartbeats 4000000 in
/-- No operation of stretch 7 takes a fresh buffer. -/
theorem seg7_fresh : (seg7 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl⟩

/-- The buffers that stretch 7 writes. -/
abbrev seg7_W : List (Ref sig .tc) := [main_v77, main_call5_c, main_call5_v0, main_call5_v1, main_call5_c_0, main_call5_v2, main_call5_v3, main_call5_v4, main_call5_v5, main_call5_c_1, main_call5_c_2, main_call5_v6, main_call5_v7, main_call5_v8, main_call5_v9, main_call5_v10, main_call5_v11, main_call5_c_3, main_call5_v12, main_call5_v13, main_call5_cst, main_call5_v14, main_v78, main_v79]

set_option maxRecDepth 16384 in
set_option maxHeartbeats 4000000 in
/-- A buffer that stretch 7 does not write keeps its contents. -/
theorem seg7_keep (V : Valuation τ sig (Elt F)) (r : Ref sig .tc) (h : r ∉ seg7_W) :
    after seg7 V (no_index (Proc.devRef .tc r)) = V (Proc.devRef .tc r) :=
  after_unwritten seg7_W rfl h V

set_option maxRecDepth 16384 in
set_option maxHeartbeats 4000000 in
/-- Every operation of stretch 8 touches only the buffers of the program. -/
theorem seg8_bufs : (seg8 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub ..⟩

set_option maxRecDepth 16384 in
set_option maxHeartbeats 4000000 in
/-- No operation of stretch 8 takes a fresh buffer. -/
theorem seg8_fresh : (seg8 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl⟩

/-- The buffers that stretch 8 writes. -/
abbrev seg8_W : List (Ref sig .tc) := [main_v80, main_call6_c, main_call6_v0, main_call6_v1, main_call6_c_0, main_call6_v2, main_call6_v3, main_call6_v4, main_call6_v5, main_call6_c_1, main_call6_c_2, main_call6_v6, main_call6_v7, main_call6_v8, main_call6_v9, main_call6_v10, main_call6_v11, main_call6_c_3, main_call6_v12, main_call6_v13, main_call6_cst, main_call6_v14, main_v81, main_v82]

set_option maxRecDepth 16384 in
set_option maxHeartbeats 4000000 in
/-- A buffer that stretch 8 does not write keeps its contents. -/
theorem seg8_keep (V : Valuation τ sig (Elt F)) (r : Ref sig .tc) (h : r ∉ seg8_W) :
    after seg8 V (no_index (Proc.devRef .tc r)) = V (Proc.devRef .tc r) :=
  after_unwritten seg8_W rfl h V

set_option maxRecDepth 16384 in
set_option maxHeartbeats 4000000 in
/-- Every operation of stretch 9 touches only the buffers of the program. -/
theorem seg9_bufs : (seg9 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub ..⟩

set_option maxRecDepth 16384 in
set_option maxHeartbeats 4000000 in
/-- No operation of stretch 9 takes a fresh buffer. -/
theorem seg9_fresh : (seg9 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl⟩

/-- The buffers that stretch 9 writes. -/
abbrev seg9_W : List (Ref sig .tc) := [main_v83, main_call7_c, main_call7_v0, main_call7_v1, main_call7_c_0, main_call7_v2, main_call7_v3, main_call7_v4, main_call7_v5, main_call7_c_1, main_call7_c_2, main_call7_v6, main_call7_v7, main_call7_v8, main_call7_v9, main_call7_v10, main_call7_v11, main_call7_c_3, main_call7_v12, main_call7_v13, main_call7_cst, main_call7_v14, main_v84, main_v85]

set_option maxRecDepth 16384 in
set_option maxHeartbeats 4000000 in
/-- A buffer that stretch 9 does not write keeps its contents. -/
theorem seg9_keep (V : Valuation τ sig (Elt F)) (r : Ref sig .tc) (h : r ∉ seg9_W) :
    after seg9 V (no_index (Proc.devRef .tc r)) = V (Proc.devRef .tc r) :=
  after_unwritten seg9_W rfl h V

set_option maxRecDepth 16384 in
set_option maxHeartbeats 4000000 in
/-- Every operation of stretch 10 touches only the buffers of the program. -/
theorem seg10_bufs : (seg10 : List (HloOp τ sig (Elt F))).Forall fun op => op.bufs ⊆ tcRefs τ sig :=
  ⟨binary_bufs_sub .., binary_bufs_sub .., binary_bufs_sub .., reshape_bufs_sub .., binary_bufs_sub .., binary_bufs_sub .., binary_bufs_sub .., reshape_bufs_sub .., unary_bufs_sub .., unary_bufs_sub .., binary_bufs_sub .., nullary_bufs_sub .., unary_bufs_sub .., ternary_bufs_sub ..⟩

set_option maxRecDepth 16384 in
set_option maxHeartbeats 4000000 in
/-- No operation of stretch 10 takes a fresh buffer. -/
theorem seg10_fresh : (seg10 : List (HloOp τ sig (Elt F))).Forall fun op => op.fresh = ∅ :=
  ⟨rfl, rfl, rfl, rfl, rfl, rfl, rfl, rfl, rfl, rfl, rfl, rfl, rfl, rfl⟩

/-- The buffers that stretch 10 writes. -/
abbrev seg10_W : List (Ref sig .tc) := [main_v86, main_v87, main_v88, main_v89, main_v90, main_v91, main_v92, main_v93, main_v94, main_v95, main_v96, main_c, main_v97, main_v98]

set_option maxRecDepth 16384 in
set_option maxHeartbeats 4000000 in
/-- A buffer that stretch 10 does not write keeps its contents. -/
theorem seg10_keep (V : Valuation τ sig (Elt F)) (r : Ref sig .tc) (h : r ∉ seg10_W) :
    after seg10 V (no_index (Proc.devRef .tc r)) = V (Proc.devRef .tc r) :=
  after_unwritten seg10_W rfl h V

/-- Every operation touches only the buffers of the program. -/
theorem ops_bufs : ∀ op ∈ (ops : List (HloOp τ sig (Elt F))), op.bufs ⊆ tcRefs τ sig := by
  intro op h
  simp only [ops, opsA, opsB, List.mem_append, or_assoc] at h
  rcases h with h | h | h | h | h | h | h | h | h | h | h
  exacts [List.forall_iff_forall_mem.mp seg0_bufs op h, List.forall_iff_forall_mem.mp seg1_bufs op h, List.forall_iff_forall_mem.mp seg2_bufs op h, List.forall_iff_forall_mem.mp seg3_bufs op h, List.forall_iff_forall_mem.mp seg4_bufs op h, List.forall_iff_forall_mem.mp seg5_bufs op h, List.forall_iff_forall_mem.mp seg6_bufs op h, List.forall_iff_forall_mem.mp seg7_bufs op h, List.forall_iff_forall_mem.mp seg8_bufs op h, List.forall_iff_forall_mem.mp seg9_bufs op h, List.forall_iff_forall_mem.mp seg10_bufs op h]

/-- No operation takes a fresh buffer. -/
theorem ops_fresh : ∀ op ∈ (ops : List (HloOp τ sig (Elt F))), op.fresh = ∅ := by
  intro op h
  simp only [ops, opsA, opsB, List.mem_append, or_assoc] at h
  rcases h with h | h | h | h | h | h | h | h | h | h | h
  exacts [List.forall_iff_forall_mem.mp seg0_fresh op h, List.forall_iff_forall_mem.mp seg1_fresh op h, List.forall_iff_forall_mem.mp seg2_fresh op h, List.forall_iff_forall_mem.mp seg3_fresh op h, List.forall_iff_forall_mem.mp seg4_fresh op h, List.forall_iff_forall_mem.mp seg5_fresh op h, List.forall_iff_forall_mem.mp seg6_fresh op h, List.forall_iff_forall_mem.mp seg7_fresh op h, List.forall_iff_forall_mem.mp seg8_fresh op h, List.forall_iff_forall_mem.mp seg9_fresh op h, List.forall_iff_forall_mem.mp seg10_fresh op h]

set_option maxRecDepth 16384 in
set_option maxHeartbeats 4000000 in
/-- What stretch 0 leaves in `main_v9`. -/
theorem seg0_v9 (V : Valuation τ sig (Elt F)) : after seg0 V (no_index (Proc.devRef .tc main_v9)) = hidden (V (Proc.devRef .tc main_arg0)) (V (Proc.devRef .tc main_arg1)) (V (Proc.devRef .tc main_arg2)) (V (Proc.devRef .tc main_arg3)) := by
  simp only [seg0, TRef.binary, TRef.nullary, TRef.unary, TRef.ternary, TRef.quaternary, TRef.reshape, TRef.toBuf, TRef.ofBuf, cast_eq]
  after_reads_simp
  rfl

set_option maxRecDepth 16384 in
set_option maxHeartbeats 4000000 in
/-- What stretch 0 leaves in `main_cst`. -/
theorem seg0_cst (V : Valuation τ sig (Elt F)) : after seg0 V (no_index (Proc.devRef .tc main_cst)) = mask (F := F) := by
  simp only [seg0, TRef.binary, TRef.nullary, TRef.unary, TRef.ternary, TRef.quaternary, TRef.reshape, TRef.toBuf, TRef.ofBuf, cast_eq]
  after_reads_simp
  rfl

set_option maxRecDepth 16384 in
set_option maxHeartbeats 4000000 in
/-- What stretch 1 leaves in `main_v13`. -/
theorem seg1_v13 (V : Valuation τ sig (Elt F)) : after seg1 V (no_index (Proc.devRef .tc main_v13)) = raw (V (Proc.devRef .tc main_v9)) (V (Proc.devRef .tc main_arg4)) (V (Proc.devRef .tc main_arg5)) := by
  simp only [seg1, TRef.binary, TRef.nullary, TRef.unary, TRef.ternary, TRef.quaternary, TRef.reshape, TRef.toBuf, TRef.ofBuf, cast_eq]
  after_reads_simp
  rfl

set_option maxRecDepth 16384 in
set_option maxHeartbeats 4000000 in
/-- What stretch 2 leaves in `main_v16`. -/
theorem seg2_v16 (V : Valuation τ sig (Elt F)) : after seg2 V (no_index (Proc.devRef .tc main_v16)) = params (V (Proc.devRef .tc main_v13)) := by
  simp only [seg2, TRef.binary, TRef.nullary, TRef.unary, TRef.ternary, TRef.quaternary, TRef.reshape, TRef.toBuf, TRef.ofBuf, cast_eq]
  after_reads_simp
  rfl

set_option maxRecDepth 16384 in
set_option maxHeartbeats 4000000 in
/-- What stretch 3 leaves in `main_v49`. -/
theorem seg3_v49 (V : Valuation τ sig (Elt F)) : after seg3 V (no_index (Proc.devRef .tc main_v49)) = knotsX (V (Proc.devRef .tc main_v16)) := by
  simp only [seg3, TRef.binary, TRef.nullary, TRef.unary, TRef.ternary, TRef.quaternary, TRef.reshape, TRef.toBuf, TRef.ofBuf, cast_eq]
  after_reads_simp
  rfl

set_option maxRecDepth 16384 in
set_option maxHeartbeats 4000000 in
/-- What stretch 3 leaves in `main_v50`. -/
theorem seg3_v50 (V : Valuation τ sig (Elt F)) : after seg3 V (no_index (Proc.devRef .tc main_v50)) = knotsY (V (Proc.devRef .tc main_v16)) := by
  simp only [seg3, TRef.binary, TRef.nullary, TRef.unary, TRef.ternary, TRef.quaternary, TRef.reshape, TRef.toBuf, TRef.ofBuf, cast_eq]
  after_reads_simp
  rfl

set_option maxRecDepth 16384 in
set_option maxHeartbeats 4000000 in
/-- What stretch 4 leaves in `main_v67`. -/
theorem seg4_v67 (V : Valuation τ sig (Elt F)) : after seg4 (after seg3 V) (no_index (Proc.devRef .tc main_v67)) = clipped (third (V (Proc.devRef .tc main_arg0))) (lefts (knotsX (V (Proc.devRef .tc main_v16)))) (rights (knotsX (V (Proc.devRef .tc main_v16)))) := by
  have h : after seg3 V (Proc.devRef .tc main_v51) = extractStridedSlice S4x4096x32x1 ![0, 0, 0, 2] (V (Proc.devRef .tc main_arg0)) slices_S4x4096x32x3_S4x4096x32x1_0_0_0_2 := by
    after_reads_simp
  simp only [seg4, TRef.binary, TRef.nullary, TRef.unary, TRef.ternary, TRef.quaternary, TRef.reshape, TRef.toBuf, TRef.ofBuf, cast_eq]
  rw [← seg3_v49 V]
  generalize after seg3 V = U at h ⊢
  after_reads_simp
  rw [h]
  rfl

set_option maxRecDepth 16384 in
set_option maxHeartbeats 4000000 in
/-- What stretch 4 leaves in `main_v55`. -/
theorem seg4_v55 (V : Valuation τ sig (Elt F)) : after seg4 V (no_index (Proc.devRef .tc main_v55)) = rights (V (Proc.devRef .tc main_v49)) := by
  simp only [seg4, TRef.binary, TRef.nullary, TRef.unary, TRef.ternary, TRef.quaternary, TRef.reshape, TRef.toBuf, TRef.ofBuf, cast_eq]
  after_reads_simp
  rfl

set_option maxRecDepth 16384 in
set_option maxHeartbeats 4000000 in
/-- What stretch 4 leaves in `main_v56`. -/
theorem seg4_v56 (V : Valuation τ sig (Elt F)) : after seg4 V (no_index (Proc.devRef .tc main_v56)) = lefts (V (Proc.devRef .tc main_v49)) := by
  simp only [seg4, TRef.binary, TRef.nullary, TRef.unary, TRef.ternary, TRef.quaternary, TRef.reshape, TRef.toBuf, TRef.ofBuf, cast_eq]
  after_reads_simp
  rfl

set_option maxRecDepth 16384 in
set_option maxHeartbeats 4000000 in
/-- What stretch 4 leaves in `main_v57`. -/
theorem seg4_v57 (V : Valuation τ sig (Elt F)) : after seg4 V (no_index (Proc.devRef .tc main_v57)) = rights (V (Proc.devRef .tc main_v50)) := by
  simp only [seg4, TRef.binary, TRef.nullary, TRef.unary, TRef.ternary, TRef.quaternary, TRef.reshape, TRef.toBuf, TRef.ofBuf, cast_eq]
  after_reads_simp
  rfl

set_option maxRecDepth 16384 in
set_option maxHeartbeats 4000000 in
/-- What stretch 4 leaves in `main_v58`. -/
theorem seg4_v58 (V : Valuation τ sig (Elt F)) : after seg4 V (no_index (Proc.devRef .tc main_v58)) = lefts (V (Proc.devRef .tc main_v50)) := by
  simp only [seg4, TRef.binary, TRef.nullary, TRef.unary, TRef.ternary, TRef.quaternary, TRef.reshape, TRef.toBuf, TRef.ofBuf, cast_eq]
  after_reads_simp
  rfl

set_option maxRecDepth 16384 in
set_option maxHeartbeats 4000000 in
/-- What stretch 5 leaves in `main_v73`. -/
theorem seg5_v73 (V : Valuation τ sig (Elt F)) : after seg5 V (no_index (Proc.devRef .tc main_v73)) = bin (inBin (V (Proc.devRef .tc main_v67)) (V (Proc.devRef .tc main_v56)) (V (Proc.devRef .tc main_v55))) := by
  simp only [seg5, TRef.binary, TRef.nullary, TRef.unary, TRef.ternary, TRef.quaternary, TRef.reshape, TRef.toBuf, TRef.ofBuf, cast_eq]
  after_reads_simp
  rfl

set_option maxRecDepth 16384 in
set_option maxHeartbeats 4000000 in
/-- What stretch 6 leaves in `main_v76`. -/
theorem seg6_v76 (V : Valuation τ sig (Elt F)) : after seg6 V (no_index (Proc.devRef .tc main_v76)) = take (V (Proc.devRef .tc main_v55)) (V (Proc.devRef .tc main_v73)) := by
  simp only [seg6, TRef.binary, TRef.nullary, TRef.unary, TRef.ternary, TRef.quaternary, TRef.reshape, TRef.toBuf, TRef.ofBuf, cast_eq]
  after_reads_simp
  rfl

set_option maxRecDepth 16384 in
set_option maxHeartbeats 4000000 in
/-- What stretch 7 leaves in `main_v79`. -/
theorem seg7_v79 (V : Valuation τ sig (Elt F)) : after seg7 V (no_index (Proc.devRef .tc main_v79)) = take (V (Proc.devRef .tc main_v56)) (V (Proc.devRef .tc main_v73)) := by
  simp only [seg7, TRef.binary, TRef.nullary, TRef.unary, TRef.ternary, TRef.quaternary, TRef.reshape, TRef.toBuf, TRef.ofBuf, cast_eq]
  after_reads_simp
  rfl

set_option maxRecDepth 16384 in
set_option maxHeartbeats 4000000 in
/-- What stretch 8 leaves in `main_v82`. -/
theorem seg8_v82 (V : Valuation τ sig (Elt F)) : after seg8 V (no_index (Proc.devRef .tc main_v82)) = take (V (Proc.devRef .tc main_v57)) (V (Proc.devRef .tc main_v73)) := by
  simp only [seg8, TRef.binary, TRef.nullary, TRef.unary, TRef.ternary, TRef.quaternary, TRef.reshape, TRef.toBuf, TRef.ofBuf, cast_eq]
  after_reads_simp
  rfl

set_option maxRecDepth 16384 in
set_option maxHeartbeats 4000000 in
/-- What stretch 9 leaves in `main_v85`. -/
theorem seg9_v85 (V : Valuation τ sig (Elt F)) : after seg9 V (no_index (Proc.devRef .tc main_v85)) = take (V (Proc.devRef .tc main_v58)) (V (Proc.devRef .tc main_v73)) := by
  simp only [seg9, TRef.binary, TRef.nullary, TRef.unary, TRef.ternary, TRef.quaternary, TRef.reshape, TRef.toBuf, TRef.ofBuf, cast_eq]
  after_reads_simp
  rfl

set_option maxRecDepth 16384 in
set_option maxHeartbeats 4000000 in
/-- What stretch 10 leaves in `main_v98`. -/
theorem seg10_v98 (V : Valuation τ sig (Elt F)) : after seg10 V (no_index (Proc.devRef .tc main_v98)) = assemble (V (Proc.devRef .tc main_arg0)) (V (Proc.devRef .tc main_cst)) (value (V (Proc.devRef .tc main_v67)) (V (Proc.devRef .tc main_v76)) (V (Proc.devRef .tc main_v79)) (V (Proc.devRef .tc main_v82)) (V (Proc.devRef .tc main_v85))) := by
  simp only [seg10, TRef.binary, TRef.nullary, TRef.unary, TRef.ternary, TRef.quaternary, TRef.reshape, TRef.toBuf, TRef.ofBuf, cast_eq]
  after_reads_simp
  rfl

/-- The reference's result as a function of its arguments. -/
def result (x : (⟨S4x4096x32x3, .f32⟩ : BufTy).Contents (Elt F)) (t : (⟨S4x192, .f32⟩ : BufTy).Contents (Elt F)) (w1 : (⟨S194x64, .f32⟩ : BufTy).Contents (Elt F)) (b1 : (⟨S64, .f32⟩ : BufTy).Contents (Elt F)) (w2 : (⟨S64x10, .f32⟩ : BufTy).Contents (Elt F)) (b2 : (⟨S10, .f32⟩ : BufTy).Contents (Elt F)) : (⟨S4x4096x32x3, .f32⟩ : BufTy).Contents (Elt F) :=
  let p := params (raw (hidden x t w1 b1) w2 b2)
  let xl := lefts (knotsX p)
  let xr := rights (knotsX p)
  let q := clipped (third x) xl xr
  let k := bin (inBin q xl xr)
  assemble x mask (value q (take xr k) (take xl k) (take (rights (knotsY p)) k) (take (lefts (knotsY p)) k))

set_option maxRecDepth 16384 in
set_option maxHeartbeats 4000000 in
/-- After all operations the result buffer holds `result` of the arguments. -/
theorem after_ops (V : Valuation τ sig (Elt F)) : after ops V (Proc.devRef .tc main_v98) = result (V (Proc.devRef .tc main_arg0)) (V (Proc.devRef .tc main_arg1)) (V (Proc.devRef .tc main_arg2)) (V (Proc.devRef .tc main_arg3)) (V (Proc.devRef .tc main_arg4)) (V (Proc.devRef .tc main_arg5)) := by
  simp only [ops, opsA, opsB, after_append]
  simp (disch := decide) only [seg10_v98, seg9_v85, seg8_v82, seg7_v79, seg6_v76, seg5_v73, seg4_v67, seg4_v55, seg4_v56, seg4_v57, seg4_v58, seg3_v49, seg3_v50, seg2_v16, seg1_v13, seg0_v9, seg0_cst, seg0_keep, seg1_keep, seg2_keep, seg3_keep, seg4_keep, seg5_keep, seg6_keep, seg7_keep, seg8_keep, seg9_keep, seg10_keep]
  rfl

set_option maxRecDepth 16384 in
set_option maxHeartbeats 4000000 in
/-- The arguments keep their contents through all operations. -/
theorem after_args (V : Valuation τ sig (Elt F)) (r : Ref sig .tc) (h : r ∈ [main_arg0, main_arg1, main_arg2, main_arg3, main_arg4, main_arg5]) : after ops V (Proc.devRef .tc r) = V (Proc.devRef .tc r) := by
  simp only [ops, opsA, opsB, after_append]
  simp only [List.mem_cons, List.not_mem_nil, or_false] at h
  rcases h with rfl | rfl | rfl | rfl | rfl | rfl <;> simp (disch := decide) only [seg0_keep, seg1_keep, seg2_keep, seg3_keep, seg4_keep, seg5_keep, seg6_keep, seg7_keep, seg8_keep, seg9_keep, seg10_keep]

set_option maxRecDepth 16384 in
set_option maxHeartbeats 4000000 in
/-- The reference terminates from any memory with zero counters; its result is `result` of the arguments, and the
    arguments are unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v98) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v98).trans (after_ops (launchContents m c)),
      (h c main_arg0).trans (after_args (launchContents m c) main_arg0 (by decide)),
      (h c main_arg1).trans (after_args (launchContents m c) main_arg1 (by decide)),
      (h c main_arg2).trans (after_args (launchContents m c) main_arg2 (by decide)),
      (h c main_arg3).trans (after_args (launchContents m c) main_arg3 (by decide)),
      (h c main_arg4).trans (after_args (launchContents m c) main_arg4 (by decide)),
      (h c main_arg5).trans (after_args (launchContents m c) main_arg5 (by decide))⟩)
    (run_seq noScopedRefs noScopedSems defs main (fun _ => ops) main_eq (fun _ => List.forall_iff_forall_mem.mpr ops_bufs) m ρ fun _ => ops_fresh)

end Cert.ReferenceIdeal.Stage

end
-- ==== Proof.ScratchColumn.lean ====
module

public import proofs.«01_k».proof.Proof.Gen.KernelIdeal.Frame
public import Idealize.ShloMosaic.Lib.Pointwise
public import Idealize.ShloMosaic.Lib.IdealHost

@[expose] public section

set_option maxRecDepth 16384

noncomputable section

namespace Cert.KernelIdeal.Value

open Cert.KernelIdeal Cert.KernelIdeal.Gen Idealize.ShloMosaic Idealize.ShloMosaic.TcCoe Idealize.SL.Sem

/-- What the first grid point of an image stores in the scratch column, at each row: the row of the repeating matrix
    against the time part of the hidden layer. -/
theorem scratch_apply (w : Vec Ideal S192x64 .f32) (t : Vec Ideal S1x1x192 .f32) (b : Vec Ideal S64x1 .f32)
    (e : Vec Ideal S512x64 .f32) (j : Fin 512) :
    k0_pay2 (F := Ideal) w t b e (ix2 j 0) =
      ∑ a : Fin 64, e (ix2 j a) * ((∑ k : Fin 192, w (ix2 k a) * t (ix3 0 0 k)) + b (ix2 a 0)) := by
  pointwise [k0_pay2]

end Cert.KernelIdeal.Value

end
-- ==== Proof.Spec.lean ====
module

public import Idealize.ShloMosaic.Lib.IdealHost

@[expose] public section

noncomputable section

namespace Cert.Spline

open Idealize.ShloMosaic

/-- The small constant added to every softplus. -/
def eps : EReal := Ideal.ofBits .f32 0x3A83126F#32

/-- How far the outermost knots lie beyond their neighbours. -/
def far : EReal := Ideal.ofBits .f32 0x461C4000#32

/-- The factor that keeps the clipped coordinate inside the outermost knots. -/
def inner : EReal := Ideal.ofBits .f32 0x3F7D70A4#32

/-- Twice: the factor of the two outer slopes. -/
def two : EReal := Ideal.ofBits .f32 0x40000000#32

/-- The features of a point: its two mapped coordinates, then the 192 entries of its time vector. -/
def feature (x : Fin 2 → EReal) (t : Fin 192 → EReal) (k : Fin 194) : EReal :=
  if h : k.val < 2 then Ideal.tanh (x ⟨k.val, h⟩) else t ⟨k.val - 2, by omega⟩

/-- One unit of the hidden layer of a point. -/
def hidden (x : Fin 2 → EReal) (t : Fin 192 → EReal) (w : Fin 194 → Fin 64 → EReal) (b : Fin 64 → EReal) (o : Fin 64) :
    EReal :=
  max ((∑ k : Fin 194, feature x t k * w k o) + b o) 0

/-- One output of the second layer of a point. -/
def raw (h : Fin 64 → EReal) (w : Fin 64 → Fin 10 → EReal) (b : Fin 10 → EReal) (q : Fin 10) : EReal :=
  (∑ o : Fin 64, h o * w o q) + b q

/-- The softplus of a number, plus the small constant. -/
def soft (r : EReal) : EReal := max r 0 + Ideal.log1p (Ideal.exp (-max r (-r))) + eps

/-- The six abscissas. -/
def abscissa (p : Fin 10 → EReal) : Fin 6 → EReal :=
  ![-p 1 - p 0 - far, -p 1 - p 0, -p 1, p 2, p 2 + p 3, p 2 + p 3 + far]

/-- The six ordinates. -/
def ordinate (p : Fin 10 → EReal) : Fin 6 → EReal :=
  ![-p 5 - p 4 - p 8 * two * far, -p 5 - p 4, -p 5, p 6, p 6 + p 7, p 6 + p 7 + p 9 * two * far]

/-- The coordinate clipped to the knots' range. -/
def clip (u : Fin 6 → EReal) (z : EReal) : EReal := min (u 5 * inner) (max (u 0 * inner) z)

/-- The line through the two knots of bin `k`, at `q`. -/
def line (u v : Fin 6 → EReal) (k : Fin 5) (q : EReal) : EReal :=
  Ideal.div (v k.succ - v k.castSucc) (u k.succ - u k.castSucc) * (q - u k.castSucc) + v k.castSucc

/-- The last bin whose left end is not above `q`. -/
def lastBin (u : Fin 6 → EReal) (q : EReal) : Fin 5 :=
  if u 4 ≤ q then 4 else if u 3 ≤ q then 3 else if u 2 ≤ q then 2 else if u 1 ≤ q then 1 else 0

/-- The first bin that a test accepts; bin zero where the test accepts none. -/
def firstOf (f : Fin 5 → Bool) : Fin 5 :=
  if f 0 then 0 else if f 1 then 1 else if f 2 then 2 else if f 3 then 3 else if f 4 then 4 else 0

/-- The first bin that holds `q`. -/
def firstBin (u : Fin 6 → EReal) (q : EReal) : Fin 5 :=
  firstOf fun k => decide (u k.castSucc ≤ q ∧ q < u k.succ)

/-- The ten parameters of a point. -/
def param (x : Fin 2 → EReal) (t : Fin 192 → EReal) (w : Fin 194 → Fin 64 → EReal) (b : Fin 64 → EReal)
    (w' : Fin 64 → Fin 10 → EReal) (b' : Fin 10 → EReal) (q : Fin 10) : EReal :=
  soft (raw (hidden x t w b) w' b' q)

/-- The spline with parameters `p` at `z`: the coordinate moved to its clipped value, the first bin that holds it, and
    the line of that bin. -/
def spline (p : Fin 10 → EReal) (z : EReal) : EReal :=
  let q := z + (clip (abscissa p) z - z)
  line (abscissa p) (ordinate p) (firstBin (abscissa p) q) q

/-- The same, by the clipped coordinate itself and the last bin it reaches. -/
def cascade (p : Fin 10 → EReal) (z : EReal) : EReal :=
  let q := clip (abscissa p) z
  line (abscissa p) (ordinate p) (lastBin (abscissa p) q) q

end Cert.Spline

end
-- ==== Proof.Layers.lean ====
module

public import proofs.«01_k».proof.Proof.Gen.KernelIdeal.Frame
public import proofs.«01_k».proof.Proof.Spec
public import Idealize.ShloMosaic.Lib.Pointwise

@[expose] public section

set_option maxRecDepth 16384

noncomputable section

namespace Cert.KernelIdeal.Value

open Cert.KernelIdeal Cert.KernelIdeal.Gen Idealize.ShloMosaic Idealize.ShloMosaic.TcCoe Idealize.SL.Sem Cert.Spline

/-- One row of a block's hidden layer at one lane: the row of the spread first weights against the sixteen rows of
    mapped coordinates, plus the scratch column, kept above zero. -/
def hiddenRow (x : Vec Ideal S1x3x8x8192 .f32) (w : Vec Ideal S512x16 .bf16) (s : Vec Ideal S512x1 .f32)
    (i : Fin 512) (l : Fin 8192) : EReal :=
  max ((∑ k : Fin 16, w (ix2 i k) *
    Ideal.tanh (x (ix4 0 ⟨k.val / 8, by omega⟩ ⟨k.val % 8, by omega⟩ l))) + s (ix2 i 0)) 0

/-- One row of a block's parameters at one lane: the softplus of the row of the spread second weights against the
    hidden rows, plus the spread second bias. -/
theorem layers_apply (x : Vec Ideal S1x3x8x8192 .f32) (w : Vec Ideal S512x16 .bf16) (s : Vec Ideal S512x1 .f32)
    (w' : Vec Ideal S80x512 .bf16) (b' : Vec Ideal S80x1 .f32) (i : Fin 80) (l : Fin 8192) :
    k0_pay5 (F := Ideal) x w s w' b' (ix2 i l) =
      soft ((∑ a : Fin 512, w' (ix2 i a) * hiddenRow x w s a l) + b' (ix2 i 0)) := by
  pointwise [k0_pay5, k0_pay3, hiddenRow, soft, eps]
  rw [zero_sub, Ideal.absf_def]

end Cert.KernelIdeal.Value

end
-- ==== Proof.Knots.lean ====
module

public import proofs.«01_k».proof.Proof.Gen.KernelIdeal.Frame
public import proofs.«01_k».proof.Proof.Spec
public import Idealize.ShloMosaic.Lib.Pointwise

@[expose] public section

set_option maxRecDepth 16384

noncomputable section

namespace Cert.KernelIdeal.Value

open Cert.KernelIdeal Cert.KernelIdeal.Gen Idealize.ShloMosaic Idealize.ShloMosaic.TcCoe Idealize.SL.Sem Cert.Spline

/-- The ten parameters of the point at sublane `r` and lane `l`, from the eighty rows of parameters. -/
def paramsAt (s : FVec Ideal S80x8192 .f32) (r : Fin 8) (l : Fin 8192) (q : Fin 10) : EReal :=
  s (ix2 ⟨q.val * 8 + r.val, by omega⟩ l)

/-- A choice by a comparison is the choice by the order. -/
theorem select_oge (a b : EReal) (u v : EReal) :
    Scalar.select (Ideal.cmp .oge a b) u v = if b ≤ a then u else v := by
  unfold Scalar.select Ideal.cmp
  by_cases h : b ≤ a <;> simp [h]

/-- The chosen values over the four inner knots, at the last bin `q` reaches. -/
theorem last_apply (u f : Fin 6 → EReal) (q : EReal) :
    f (lastBin u q).castSucc = if u 4 ≤ q then f 4 else if u 3 ≤ q then f 3 else if u 2 ≤ q then f 2 else
      if u 1 ≤ q then f 1 else f 0 := by
  unfold lastBin; split_ifs <;> rfl

/-- The same for the right ends. -/
theorem last_apply_succ (u f : Fin 6 → EReal) (q : EReal) :
    f (lastBin u q).succ = if u 4 ≤ q then f 5 else if u 3 ≤ q then f 4 else if u 2 ≤ q then f 3 else
      if u 1 ≤ q then f 2 else f 1 := by
  unfold lastBin; split_ifs <;> rfl

section At

variable (z : FVec Ideal S8x8192 .f32) (s : FVec Ideal S80x8192 .f32) (r : Fin 8) (l : Fin 8192)

/-! The six abscissas, and the six ordinates, as the block computes them. -/

/-- The fourth abscissa of every point of the block. -/
theorem x3_apply : k0_pay6 s (ix2 r l) = abscissa (paramsAt s r l) 3 := by
  show _ = paramsAt s r l 2
  pointwise [k0_pay6, paramsAt]
/-- The third abscissa of every point of the block. -/
theorem x2_apply : k0_pay8 s (ix2 r l) = abscissa (paramsAt s r l) 2 := by
  show _ = -paramsAt s r l 1
  pointwise [k0_pay8, paramsAt]
  rw [zero_sub]
/-- The second abscissa of every point of the block. -/
theorem x1_apply : k0_pay9 s (ix2 r l) = abscissa (paramsAt s r l) 1 := by
  show _ = abscissa (paramsAt s r l) 2 - paramsAt s r l 0
  rw [← x2_apply]
  pointwise [k0_pay9, paramsAt]
/-- The first abscissa of every point of the block. -/
theorem x0_apply : k0_pay10 s (ix2 r l) = abscissa (paramsAt s r l) 0 := by
  show _ = abscissa (paramsAt s r l) 1 - far
  rw [← x1_apply]
  pointwise [k0_pay10, far]
/-- The fifth abscissa of every point of the block. -/
theorem x4_apply : k0_pay11 s (ix2 r l) = abscissa (paramsAt s r l) 4 := by
  show _ = abscissa (paramsAt s r l) 3 + paramsAt s r l 3
  rw [← x3_apply]
  pointwise [k0_pay11, paramsAt]
/-- The sixth abscissa of every point of the block. -/
theorem x5_apply : k0_pay12 s (ix2 r l) = abscissa (paramsAt s r l) 5 := by
  show _ = abscissa (paramsAt s r l) 4 + far
  rw [← x4_apply]
  pointwise [k0_pay12, far]
/-- The fourth ordinate of every point of the block. -/
theorem y3_apply : k0_pay7 s (ix2 r l) = ordinate (paramsAt s r l) 3 := by
  show _ = paramsAt s r l 6
  pointwise [k0_pay7, paramsAt]
/-- The third ordinate of every point of the block. -/
theorem y2_apply : k0_pay13 s (ix2 r l) = ordinate (paramsAt s r l) 2 := by
  show _ = -paramsAt s r l 5
  pointwise [k0_pay13, paramsAt]
  rw [zero_sub]
/-- The second ordinate of every point of the block. -/
theorem y1_apply : k0_pay14 s (ix2 r l) = ordinate (paramsAt s r l) 1 := by
  show _ = ordinate (paramsAt s r l) 2 - paramsAt s r l 4
  rw [← y2_apply]
  pointwise [k0_pay14, paramsAt]
/-- The fifth ordinate of every point of the block. -/
theorem y4_apply : k0_pay15 s (ix2 r l) = ordinate (paramsAt s r l) 4 := by
  show _ = ordinate (paramsAt s r l) 3 + paramsAt s r l 7
  rw [← y3_apply]
  pointwise [k0_pay15, paramsAt]
/-- The sixth ordinate of every point of the block. -/
theorem y5_apply : k0_pay16 s (ix2 r l) = ordinate (paramsAt s r l) 5 := by
  show _ = ordinate (paramsAt s r l) 4 + paramsAt s r l 9 * two * far
  rw [← y4_apply]
  pointwise [k0_pay16, paramsAt, two, far]

/-- The clipped coordinate. -/
theorem clip_apply : k0_pay17 z s (ix2 r l) = clip (abscissa (paramsAt s r l)) (z (ix2 r l)) := by
  unfold clip
  rw [← x0_apply, ← x5_apply]
  pointwise [k0_pay17, Spline.inner]

/-- The block's result at a point: the choices over the knots, and the line of the bin chosen. -/
theorem knots_apply :
    k0_pay1 (F := Ideal) (k0_pay7 s) (k0_pay11 s) (k0_pay12 s) (k0_pay15 s) (k0_pay16 s) (k0_pay17 z s)
      (k0_pay20 z s) (k0_pay21 z s) (k0_pay22 z s) (k0_pay23 z s) (k0_pay24 z s) (ix3 0 r l) =
    cascade (paramsAt s r l) (z (ix2 r l)) := by
  have y0 : k0_pay14 s (ix2 r l) - s (ix2 ⟨64 + r.val, by omega⟩ l) * two * far = ordinate (paramsAt s r l) 0 := by
    rw [y1_apply]
    show _ = ordinate (paramsAt s r l) 1 - s (ix2 ⟨8 * 8 + r.val, by omega⟩ l) * two * far
    rfl
  unfold cascade line
  simp only [last_apply, last_apply_succ]
  rw [← y0]
  simp only [← x0_apply, ← x1_apply, ← x2_apply, ← x3_apply, ← x4_apply, ← x5_apply, ← y1_apply, ← y2_apply,
    ← y3_apply, ← y4_apply, ← y5_apply, ← clip_apply, two, far]
  pointwise [k0_pay1, k0_pay20, k0_pay21, k0_pay22, k0_pay23, k0_pay24, k0_pay18, k0_pay19]
  done

end At

end Cert.KernelIdeal.Value

end
-- ==== Proof.Prefix.lean ====
module

public import proofs.«01_k».proof.Proof.Gen.KernelIdeal.Frame
public import Idealize.ShloMosaic.Lib.StableHlo.RunRead

@[expose] public section

set_option maxRecDepth 16384

noncomputable section

namespace Cert.KernelIdeal.Prefix

open Cert.KernelIdeal Cert.KernelIdeal.Gen Idealize.ShloMosaic Idealize.ShloMosaic.TcCoe Idealize.SL.Sem Idealize.ShloMosaic.StableHlo

variable {F : FTy → Type} [FloatOps F]

/-- The points, channel by channel, each image's points in eight rows. -/
def points (x : FVec F S4x4096x32x3 .f32) : FVec F S4x3x8x16384 .f32 :=
  shapeCast _ (transpose S4x3x4096x32 [0, 3, 1, 2] x transposes_S4x4096x32x3_S4x3x4096x32_0_3_1_2)
    shapeCasts_S4x3x4096x32_S4x3x8x16384

/-- The eight-by-eight identity. -/
def eye8 : FVec F S8x8 .f32 :=
  uitofp .f32 (cmpi .eq (addi (iotaInDim S8x8 32 0) (broadcastInDim S8x8 ![] bcast_S_S8x8 (constantI S_ 32 0#32)))
    (iotaInDim S8x8 32 1))

/-- The 64-by-64 identity. -/
def eye64 : FVec F S64x64 .f32 :=
  uitofp .f32 (cmpi .eq (addi (iotaInDim S64x64 32 0)
    (broadcastInDim S64x64 ![] bcast_S_S64x64 (constantI S_ 32 0#32))) (iotaInDim S64x64 32 1))

/-- The first two rows of the first weights, transposed, each entry spread over an eight-by-eight diagonal. -/
def spread1 (w : FVec F S194x64 .f32) : FVec F S512x16 .bf16 :=
  truncf .bf16 (shapeCast S512x16 (mulf
    (broadcastInDim S64x8x2x8 ![0, 1, 2, 3] bcast_S64x1x2x1_S64x8x2x8_0_1_2_3
      (broadcastInDim S64x1x2x1 ![0, 2] bcast_S64x2_S64x1x2x1_0_2
        (transpose S64x2 [1, 0] (extractStridedSlice S2x64 ![0, 0] w slices_S194x64_S2x64_0_0) transposes_S2x64_S64x2_1_0)))
    (broadcastInDim S64x8x2x8 ![0, 1, 2, 3] bcast_S1x8x1x8_S64x8x2x8_0_1_2_3
      (broadcastInDim S1x8x1x8 ![1, 3] bcast_S8x8_S1x8x1x8_1_3 eye8))) shapeCasts_S64x8x2x8_S512x16) bitsLt_bf16_f32

/-- The second weights, transposed, each entry spread over an eight-by-eight diagonal. -/
def spread2 (w : FVec F S64x10 .f32) : FVec F S80x512 .bf16 :=
  truncf .bf16 (shapeCast S80x512 (mulf
    (broadcastInDim S10x8x64x8 ![0, 1, 2, 3] bcast_S10x1x64x1_S10x8x64x8_0_1_2_3
      (broadcastInDim S10x1x64x1 ![0, 2] bcast_S10x64_S10x1x64x1_0_2
        (transpose S10x64 [1, 0] w transposes_S64x10_S10x64_1_0)))
    (broadcastInDim S10x8x64x8 ![0, 1, 2, 3] bcast_S1x8x1x8_S10x8x64x8_0_1_2_3
      (broadcastInDim S1x8x1x8 ![1, 3] bcast_S8x8_S1x8x1x8_1_3 eye8))) shapeCasts_S10x8x64x8_S80x512) bitsLt_bf16_f32

/-- The 64-by-64 identity with each row repeated eight times. -/
def repeating : FVec F S512x64 .f32 :=
  shapeCast _ (broadcastInDim S64x8x64 ![0, 2] bcast_S64x64_S64x8x64_0_2 eye64) shapeCasts_S64x8x64_S512x64

/-- The second bias, each entry repeated eight times, as a column. -/
def bias2 (b : FVec F S10 .f32) : FVec F S80x1 .f32 :=
  broadcastInDim S80x1 ![0] bcast_S80_S80x1_0 (shapeCast S80 (broadcastInDim S10x8 ![0] bcast_S10_S10x8_0 b) shapeCasts_S10x8_S80)

variable (m : (ℓ : Loc nD τ sig) → Buf (Elt F) ℓ) (c : Dev nD)

/-! What each array holds when the region is entered, from the program's arguments. -/

/-- What the operations before the call leave of the points. -/
theorem points_eq : V m c main_v1 = points (m ((c : Thread nD τ).loc main_arg0)) := by
  simp only [V, V0, hostOps0, hostOps0_1, hostOps0_2, hostOps0_3, hostOps0_4, List.flatten_cons, List.flatten_nil, List.append_nil, List.cons_append, List.nil_append]
  after_reads_simp
  rfl

/-- What they leave of the first weights of the coordinates. -/
theorem spread1_eq : V m c main_v11 = spread1 (m ((c : Thread nD τ).loc main_arg2)) := by
  simp only [V, V0, hostOps0, hostOps0_1, hostOps0_2, hostOps0_3, hostOps0_4, List.flatten_cons, List.flatten_nil, List.append_nil, List.cons_append, List.nil_append]
  after_reads_simp
  rfl

/-- What they leave of the second weights. -/
theorem spread2_eq : V m c main_v14 = spread2 (m ((c : Thread nD τ).loc main_arg4)) := by
  simp only [V, V0, hostOps0, hostOps0_1, hostOps0_2, hostOps0_3, hostOps0_4, List.flatten_cons, List.flatten_nil, List.append_nil, List.cons_append, List.nil_append]
  after_reads_simp
  rfl

/-- What they leave as the repeating matrix. -/
theorem repeating_eq : V m c main_v22 = repeating (F := F) := by
  simp only [V, V0, hostOps0, hostOps0_1, hostOps0_2, hostOps0_3, hostOps0_4, List.flatten_cons, List.flatten_nil, List.append_nil, List.cons_append, List.nil_append]
  after_reads_simp
  rfl

/-- What they leave of the second bias. -/
theorem bias2_eq : V m c main_v25 = bias2 (m ((c : Thread nD τ).loc main_arg5)) := by
  simp only [V, V0, hostOps0, hostOps0_1, hostOps0_2, hostOps0_3, hostOps0_4, List.flatten_cons, List.flatten_nil, List.append_nil, List.cons_append, List.nil_append]
  after_reads_simp
  rfl

/-- What they leave of the time features. -/
theorem time_eq : V m c main_v26 = broadcastInDim S4x1x192 ![0, 2] bcast_S4x192_S4x1x192_0_2 (m ((c : Thread nD τ).loc main_arg1)) := by
  simp only [V, V0, hostOps0, hostOps0_1, hostOps0_2, hostOps0_3, hostOps0_4, List.flatten_cons, List.flatten_nil, List.append_nil, List.cons_append, List.nil_append]
  after_reads_simp

/-- What they leave of the first weights of the time features. -/
theorem weights_eq : V m c main_v27 = extractStridedSlice S192x64 ![2, 0] (m ((c : Thread nD τ).loc main_arg2)) slices_S194x64_S192x64_2_0 := by
  simp only [V, V0, hostOps0, hostOps0_1, hostOps0_2, hostOps0_3, hostOps0_4, List.flatten_cons, List.flatten_nil, List.append_nil, List.cons_append, List.nil_append]
  after_reads_simp

/-- What they leave of the first bias. -/
theorem bias1_eq : V m c main_v28 = broadcastInDim S64x1 ![0] bcast_S64_S64x1_0 (m ((c : Thread nD τ).loc main_arg3)) := by
  simp only [V, V0, hostOps0, hostOps0_1, hostOps0_2, hostOps0_3, hostOps0_4, List.flatten_cons, List.flatten_nil, List.append_nil, List.cons_append, List.nil_append]
  after_reads_simp

end Cert.KernelIdeal.Prefix

end
-- ==== Proof.PrefixAt.lean ====
module

public import proofs.«01_k».proof.Proof.Prefix
public import Idealize.ShloMosaic.Lib.Pointwise
public import Idealize.ShloMosaic.Lib.WordCmp

@[expose] public section

set_option maxRecDepth 16384

noncomputable section

namespace Cert.KernelIdeal.Prefix

open Cert.KernelIdeal Cert.KernelIdeal.Gen Idealize.ShloMosaic Idealize.ShloMosaic.TcCoe Idealize.SL.Sem

/-- Whether two small numbers are the same word, as an extended real. -/
theorem uitofp_eq (a b : ℕ) (ha : a < 64) (hb : b < 64) :
    (FloatOps.uitofp (F := Ideal) .f32 (IntOp.cmpi .eq (IntOp.addi (BitVec.ofNat 32 a) 0#32) (BitVec.ofNat 32 b)) : EReal) =
      if a = b then 1 else 0 := by
  have h : (IntOp.addi (BitVec.ofNat 32 a) 0#32 = BitVec.ofNat 32 b) ↔ a = b := by
    simp only [IntOp.addi, BitVec.add_zero]
    rw [BitVec.toNat_inj.symm]
    simp only [BitVec.toNat_ofNat]
    omega
  show ((((IntOp.cmpi .eq (IntOp.addi (BitVec.ofNat 32 a) 0#32) (BitVec.ofNat 32 b)).toNat : ℕ) : ℝ) : EReal) = _
  by_cases e : a = b
  · rw [if_pos e]; simp [IntOp.cmpi, h.mpr e]
  · rw [if_neg e]; simp [IntOp.cmpi, mt h.mp e]

/-- The points by channel, row and lane. -/
theorem points_apply (x : FVec Ideal S4x4096x32x3 .f32) (i : Fin 4) (ch : Fin 3) (r : Fin 8) (l : Fin 16384) :
    points x (ix4 i ch r l) =
      x (ix4 i ⟨r.val * 512 + l.val / 32, by omega⟩ ⟨l.val % 32, by omega⟩ ch) := by
  pointwise [points]

/-- An entry of the unit matrix of eight rows. -/
theorem eye8_apply (i a : Fin 8) : eye8 (F := Ideal) (ix2 i a) = if i = a then 1 else 0 := by
  pointwise [eye8]
  rw [uitofp_eq _ _ (by omega) (by omega)]
  simp only [Fin.ext_iff]

/-- The repeating matrix: one where the row's group is the column. -/
theorem repeating_apply (i : Fin 512) (a : Fin 64) :
    repeating (F := Ideal) (ix2 i a) = if i.val / 8 = a.val then 1 else 0 := by
  pointwise [repeating, eye64]
  rw [uitofp_eq _ _ (by omega) (by omega)]

/-- The spread first weights: the weight on the diagonal of its group, zero off it. -/
theorem spread1_apply (w : FVec Ideal S194x64 .f32) (i : Fin 512) (k : Fin 16) :
    spread1 w (ix2 i k) = w (ix2 ⟨k.val / 8, by omega⟩ ⟨i.val / 8, by omega⟩) *
      (if i.val % 8 = k.val % 8 then 1 else 0) := by
  have h := eye8_apply ⟨i.val % 8, by omega⟩ ⟨k.val % 8, by omega⟩
  simp only [Fin.mk.injEq] at h
  rw [← h]
  pointwise [spread1]

/-- The spread second weights: the weight on the diagonal of its group, zero off it. -/
theorem spread2_apply (w : FVec Ideal S64x10 .f32) (i : Fin 80) (a : Fin 512) :
    spread2 w (ix2 i a) = w (ix2 ⟨a.val / 8, by omega⟩ ⟨i.val / 8, by omega⟩) *
      (if i.val % 8 = a.val % 8 then 1 else 0) := by
  have h := eye8_apply ⟨i.val % 8, by omega⟩ ⟨a.val % 8, by omega⟩
  simp only [Fin.mk.injEq] at h
  rw [← h]
  pointwise [spread2]

/-- The repeated second bias. -/
theorem bias2_apply (b : FVec Ideal S10 .f32) (i : Fin 80) : bias2 b (ix2 i 0) = b (ix1 ⟨i.val / 8, by omega⟩) := by
  pointwise [bias2]

end Cert.KernelIdeal.Prefix

end
-- ==== Proof.Collapse.lean ====
module

public import proofs.«01_k».proof.Proof.Spec

@[expose] public section

noncomputable section

namespace Cert.Spline

open Idealize.ShloMosaic

/-- A sum over groups of eight, group by group. -/
theorem sum_group {n : ℕ} (f : Fin (n * 8) → EReal) :
    ∑ t, f t = ∑ a : Fin n, ∑ b : Fin 8, f ⟨a.val * 8 + b.val, by omega⟩ := by
  rw [← finProdFinEquiv.sum_comp, Fintype.sum_prod_type]
  refine Finset.sum_congr rfl fun a _ => Finset.sum_congr rfl fun b _ => congrArg f (Fin.ext ?_)
  show b.val + 8 * a.val = a.val * 8 + b.val
  omega

/-- A row spread over eight-by-eight diagonals, against a grouped column: the row against the column's entries at the
    row's place in its group. -/
theorem sum_diagonal {n : ℕ} (w : Fin n → EReal) (g : Fin n → Fin 8 → EReal) (r : Fin 8) :
    ∑ t : Fin (n * 8), (w ⟨t.val / 8, by omega⟩ * (if r.val = t.val % 8 then 1 else 0)) *
      g ⟨t.val / 8, by omega⟩ ⟨t.val % 8, by omega⟩ = ∑ a : Fin n, w a * g a r := by
  rw [sum_group]
  refine Finset.sum_congr rfl fun a _ => ?_
  rw [Finset.sum_eq_single r]
  · have h1 : (a.val * 8 + r.val) / 8 = a.val := by omega
    have h2 : (a.val * 8 + r.val) % 8 = r.val := by omega
    simp only [h1, h2, if_true, mul_one, Fin.eta]
  · intro b _ hb
    have h2 : (a.val * 8 + b.val) % 8 = b.val := by omega
    simp only [h2]
    rw [if_neg (fun h => hb (Fin.ext h.symm)), mul_zero, zero_mul]
  · intro h; exact absurd (Finset.mem_univ r) h

/-- A one-hot row against a column is the column's entry there. -/
theorem sum_onehot {n : ℕ} (g : Fin n → EReal) (o : Fin n) :
    ∑ a : Fin n, (if o.val = a.val then 1 else 0) * g a = g o := by
  rw [Finset.sum_eq_single o]
  · simp
  · intro b _ hb
    rw [if_neg (fun h => hb (Fin.ext h.symm)), zero_mul]
  · intro h; exact absurd (Finset.mem_univ o) h

/-- The hidden unit with the time part of its sum, and the bias, added apart from the two coordinates. -/
theorem hidden_split (x : Fin 2 → EReal) (t : Fin 192 → EReal) (w : Fin 194 → Fin 64 → EReal) (b : Fin 64 → EReal)
    (o : Fin 64) :
    hidden x t w b o = max ((∑ c : Fin 2, w ⟨c.val, by omega⟩ o * Ideal.tanh (x c)) +
      ((∑ k : Fin 192, w ⟨k.val + 2, by omega⟩ o * t k) + b o)) 0 := by
  unfold hidden
  congr 1
  rw [← add_assoc]
  congr 1
  rw [Fin.sum_univ_add (a := 2) (b := 192) (fun k : Fin 194 => feature x t k * w k o)]
  congr 1
  · refine Finset.sum_congr rfl fun c _ => ?_
    rw [mul_comm]
    congr 1
    simp only [feature, Fin.val_castAdd, c.isLt, dite_true]
  · refine Finset.sum_congr rfl fun k _ => ?_
    have e : (Fin.natAdd 2 k : Fin 194) = ⟨k.val + 2, by omega⟩ := Fin.ext (by simp [Nat.add_comm])
    rw [mul_comm, e]
    congr 1

end Cert.Spline

end
-- ==== Proof.Block.lean ====
module

public import proofs.«01_k».proof.Proof.ScratchColumn
public import proofs.«01_k».proof.Proof.Layers
public import proofs.«01_k».proof.Proof.Knots
public import proofs.«01_k».proof.Proof.PrefixAt
public import proofs.«01_k».proof.Proof.Collapse

@[expose] public section

set_option maxRecDepth 16384

noncomputable section

namespace Cert.KernelIdeal.Value

open Cert.KernelIdeal Cert.KernelIdeal.Gen Idealize.ShloMosaic Idealize.ShloMosaic.TcCoe Idealize.SL.Sem Cert.Spline
open Cert.KernelIdeal.Prefix

/-- What the body stores for one block, from the block of points, the two spread weights, the spread bias and the
    scratch column. -/
def stored (x : Vec Ideal S1x3x8x8192 .f32) (w : Vec Ideal S512x16 .bf16) (s : Vec Ideal S512x1 .f32)
    (w' : Vec Ideal S80x512 .bf16) (b' : Vec Ideal S80x1 .f32) : FVec Ideal S1x8x8192 .f32 :=
  let z := k0_pay4 x
  let v := k0_pay5 x w s w' b'
  k0_pay1 (F := Ideal) (k0_pay7 v) (k0_pay11 v) (k0_pay12 v) (k0_pay15 v) (k0_pay16 v) (k0_pay17 z v)
      (k0_pay20 z v) (k0_pay21 z v) (k0_pay22 z v) (k0_pay23 z v) (k0_pay24 z v)

/-- The time part of a hidden unit, with its bias. -/
def timePart (t : Fin 192 → EReal) (w : Fin 194 → Fin 64 → EReal) (b : Fin 64 → EReal) (o : Fin 64) : EReal :=
  (∑ k : Fin 192, w ⟨k.val + 2, by omega⟩ o * t k) + b o

/-- A hidden row of a block over the spread first weights is the hidden unit of its group, at the point of its place. -/
theorem hiddenRow_eq (x : Vec Ideal S1x3x8x8192 .f32) (w : FVec Ideal S194x64 .f32) (s : Vec Ideal S512x1 .f32)
    (t : Fin 192 → EReal) (b : Fin 64 → EReal)
    (hs : ∀ i : Fin 512, s (ix2 i 0) = timePart t (fun k o => w (ix2 k o)) b ⟨i.val / 8, by omega⟩)
    (i : Fin 512) (l : Fin 8192) :
    hiddenRow x (spread1 w) s i l =
      hidden (fun c => x (ix4 0 ⟨c.val, by omega⟩ ⟨i.val % 8, by omega⟩ l)) t (fun k o => w (ix2 k o)) b
        ⟨i.val / 8, by omega⟩ := by
  rw [hidden_split, hiddenRow, hs i, timePart]
  congr 2
  simp only [spread1_apply]
  exact sum_diagonal (n := 2) (fun c => w (ix2 ⟨c.val, by omega⟩ ⟨i.val / 8, by omega⟩))
    (fun c r => Ideal.tanh (x (ix4 0 ⟨c.val, by omega⟩ r l))) ⟨i.val % 8, by omega⟩

/-- The parameters of a block over the spread weights are the parameters of each point. -/
theorem params_eq (x : Vec Ideal S1x3x8x8192 .f32) (w : FVec Ideal S194x64 .f32) (s : Vec Ideal S512x1 .f32)
    (w' : FVec Ideal S64x10 .f32) (b' : FVec Ideal S10 .f32) (t : Fin 192 → EReal) (b : Fin 64 → EReal)
    (hs : ∀ i : Fin 512, s (ix2 i 0) = timePart t (fun k o => w (ix2 k o)) b ⟨i.val / 8, by omega⟩)
    (r : Fin 8) (l : Fin 8192) :
    paramsAt (k0_pay5 x (spread1 w) s (spread2 w') (bias2 b')) r l =
      param (fun c => x (ix4 0 ⟨c.val, by omega⟩ r l)) t (fun k o => w (ix2 k o)) b (fun o q => w' (ix2 o q))
        (fun q => b' (ix1 q)) := by
  funext q
  have hq : (q.val * 8 + r.val) / 8 = q.val := by omega
  have hr : (q.val * 8 + r.val) % 8 = r.val := by omega
  rw [paramsAt, layers_apply, param, raw, bias2_apply]
  simp only [spread2_apply, hiddenRow_eq x w s t b hs, hq, hr, Fin.eta]
  congr 2
  rw [show (∑ o : Fin 64, hidden (fun c => x (ix4 0 ⟨c.val, by omega⟩ r l)) t (fun k o => w (ix2 k o)) b o * w' (ix2 o q)) =
    ∑ o : Fin 64, w' (ix2 o q) * hidden (fun c => x (ix4 0 ⟨c.val, by omega⟩ r l)) t (fun k o => w (ix2 k o)) b o from
    Finset.sum_congr rfl fun o _ => mul_comm _ _]
  exact sum_diagonal (n := 64) (fun o => w' (ix2 o q))
    (fun o r => hidden (fun c => x (ix4 0 ⟨c.val, by omega⟩ r l)) t (fun k o => w (ix2 k o)) b o) r

/-- What the body stores at a point: the cascade of the point's parameters at its third coordinate. -/
theorem stored_apply (x : Vec Ideal S1x3x8x8192 .f32) (w : FVec Ideal S194x64 .f32) (s : Vec Ideal S512x1 .f32)
    (w' : FVec Ideal S64x10 .f32) (b' : FVec Ideal S10 .f32) (t : Fin 192 → EReal) (b : Fin 64 → EReal)
    (hs : ∀ i : Fin 512, s (ix2 i 0) = timePart t (fun k o => w (ix2 k o)) b ⟨i.val / 8, by omega⟩)
    (r : Fin 8) (l : Fin 8192) :
    stored x (spread1 w) s (spread2 w') (bias2 b') (ix3 0 r l) =
      cascade (param (fun c => x (ix4 0 ⟨c.val, by omega⟩ r l)) t (fun k o => w (ix2 k o)) b (fun o q => w' (ix2 o q))
        (fun q => b' (ix1 q))) (x (ix4 0 2 r l)) := by
  have hz : k0_pay4 x (ix2 r l) = x (ix4 0 2 r l) := by pointwise [k0_pay4, k0_pay3]
  rw [stored, knots_apply, params_eq x w s w' b' t b hs, hz]

/-- The scratch column over the repeating matrix holds the time part of each row's group. -/
theorem scratch_eq (w : FVec Ideal S194x64 .f32) (wt : Vec Ideal S192x64 .f32) (tt : Vec Ideal S1x1x192 .f32)
    (bb : Vec Ideal S64x1 .f32) (t : Fin 192 → EReal) (b : Fin 64 → EReal)
    (hw : ∀ (k : Fin 192) (o : Fin 64), wt (ix2 k o) = w (ix2 ⟨k.val + 2, by omega⟩ o))
    (ht : ∀ k : Fin 192, tt (ix3 0 0 k) = t k) (hb : ∀ o : Fin 64, bb (ix2 o 0) = b o) (i : Fin 512) :
    k0_pay2 (F := Ideal) wt tt bb (repeating (F := Ideal)) (ix2 i 0) =
      timePart t (fun k o => w (ix2 k o)) b ⟨i.val / 8, by omega⟩ := by
  rw [scratch_apply]
  simp only [repeating_apply, hw, ht, hb]
  exact sum_onehot (fun o => timePart t (fun k o => w (ix2 k o)) b o) ⟨i.val / 8, by omega⟩

end Cert.KernelIdeal.Value

end
-- ==== Proof.Inputs.lean ====
module

public import proofs.«01_k».proof.Proof.Block
public import Idealize.ShloMosaic.Lib.Pipeline.ValueKit

@[expose] public section

set_option maxRecDepth 16384

noncomputable section

namespace Cert.KernelIdeal.Value

open Cert.KernelIdeal Cert.KernelIdeal.Gen Idealize.ShloMosaic Idealize.ShloMosaic.TcCoe Idealize.SL.Sem Cert.Spline
open Cert.KernelIdeal.Prefix

/-- Which block each window has at each grid point: the points, the time vector and the result move with the image and
    the half; the weights stay. -/
theorem idx : ∀ t : Fin cfg0.N, win0_0.index t = ![t.val / 2, 0, 0, t.val % 2] ∧ win0_1.index t = ![t.val / 2, 0, 0] ∧
    win0_2.index t = ![0, 0] ∧ win0_3.index t = ![0, 0] ∧ win0_4.index t = ![0, 0] ∧ win0_5.index t = ![0, 0] ∧
    win0_6.index t = ![0, 0] ∧ win0_7.index t = ![0, 0] ∧ win0_8.index t = ![t.val / 2, 0, t.val % 2] :=
  (by decide +kernel : ∀ t : Fin grid0.N, _)

variable (m : (ℓ : Loc nD τ sig) → Buf (Elt Ideal) ℓ) (c : Dev nD)

/-- The number of grid points. -/
theorem point_lt (t : Fin cfg0.N) : t.val < 8 := t.isLt

/-! What each input block holds at a grid point, from the program's arguments. -/

/-- Every grid point reads the spread first weights of the coordinates, whole. -/
theorem iblk5_eq (t : Fin cfg0.N) : (iblk m c 5 t : Vec Ideal S512x16 .bf16) = spread1 (F := Ideal) (m ((c : Thread nD τ).loc main_arg2)) := by
  funext y
  rw [← spread1_eq]
  blk_ext [iblk, idx t]

/-- Every grid point reads the spread second weights, whole. -/
theorem iblk6_eq (t : Fin cfg0.N) : (iblk m c 6 t : Vec Ideal S80x512 .bf16) = spread2 (F := Ideal) (m ((c : Thread nD τ).loc main_arg4)) := by
  funext y
  rw [← spread2_eq]
  blk_ext [iblk, idx t]

/-- Every grid point reads the spread second bias, whole. -/
theorem iblk7_eq (t : Fin cfg0.N) : (iblk m c 7 t : Vec Ideal S80x1 .f32) = bias2 (F := Ideal) (m ((c : Thread nD τ).loc main_arg5)) := by
  funext y
  rw [← bias2_eq]
  blk_ext [iblk, idx t]

/-- Every grid point reads the repeating matrix, whole. -/
theorem iblk4_eq (t : Fin cfg0.N) : (iblk m c 4 t : Vec Ideal S512x64 .f32) = repeating (F := Ideal) := by
  funext y
  rw [← repeating_eq m c]
  blk_ext [iblk, idx t]

/-- Every grid point reads the first bias as a column. -/
theorem iblk3_eq (t : Fin cfg0.N) (o : Fin 64) :
    (iblk m c 3 t : Vec Ideal S64x1 .f32) (ix2 o 0) = (m ((c : Thread nD τ).loc main_arg3) : Vec Ideal S64 .f32) (ix1 o) := by
  have h : (iblk m c 3 t : Vec Ideal S64x1 .f32) (ix2 o 0) = (V m c main_v28 : Vec Ideal S64x1 .f32) (ix2 o 0) := by
    blk_ext [iblk, idx t]
  rw [h, bias1_eq]
  pointwise

/-- Every grid point reads the first weights of the time features. -/
theorem iblk2_eq (t : Fin cfg0.N) (k : Fin 192) (o : Fin 64) :
    (iblk m c 2 t : Vec Ideal S192x64 .f32) (ix2 k o) =
      (m ((c : Thread nD τ).loc main_arg2) : Vec Ideal S194x64 .f32) (ix2 ⟨k.val + 2, by omega⟩ o) := by
  have h : (iblk m c 2 t : Vec Ideal S192x64 .f32) (ix2 k o) = (V m c main_v27 : Vec Ideal S192x64 .f32) (ix2 k o) := by
    blk_ext [iblk, idx t]
  rw [h, weights_eq]
  pointwise
  exact congrArg (fun i => (m ((c : Thread nD τ).loc main_arg2) : Vec Ideal S194x64 .f32) (ix2 i o)) (Fin.ext (Nat.add_comm _ _))

/-- A grid point reads the time features of its image. -/
theorem iblk1_eq (t : Fin cfg0.N) (k : Fin 192) :
    (iblk m c 1 t : Vec Ideal S1x1x192 .f32) (ix3 0 0 k) =
      (m ((c : Thread nD τ).loc main_arg1) : Vec Ideal S4x192 .f32) (ix2 ⟨t.val / 2, by have := point_lt t; omega⟩ k) := by
  have h : (iblk m c 1 t : Vec Ideal S1x1x192 .f32) (ix3 0 0 k) =
      (V m c main_v26 : Vec Ideal S4x1x192 .f32) (ix3 ⟨t.val / 2, by have := point_lt t; omega⟩ 0 k) := by
    blk_ext [iblk, idx t]
  rw [h, time_eq]
  pointwise

/-- A grid point reads its own share of its image's points. -/
theorem iblk0_eq (t : Fin cfg0.N) (ch : Fin 3) (r : Fin 8) (l : Fin 8192) :
    (iblk m c 0 t : Vec Ideal S1x3x8x8192 .f32) (ix4 0 ch r l) =
      (m ((c : Thread nD τ).loc main_arg0) : Vec Ideal S4x4096x32x3 .f32)
        (ix4 ⟨t.val / 2, by have := point_lt t; omega⟩ ⟨r.val * 512 + (t.val % 2 * 8192 + l.val) / 32, by omega⟩
          ⟨(t.val % 2 * 8192 + l.val) % 32, by omega⟩ ch) := by
  have h : (iblk m c 0 t : Vec Ideal S1x3x8x8192 .f32) (ix4 0 ch r l) =
      (V m c main_v1 : Vec Ideal S4x3x8x16384 .f32)
        (ix4 ⟨t.val / 2, by have := point_lt t; omega⟩ ch r ⟨t.val % 2 * 8192 + l.val, by omega⟩) := by
    blk_ext [iblk, idx t]
  rw [h, points_eq, points_apply]

end Cert.KernelIdeal.Value

end
-- ==== Proof.Array.lean ====
module

public import proofs.«01_k».proof.Proof.Inputs
public import Idealize.ShloMosaic.Lib.Pipeline.ReadBack

@[expose] public section

set_option maxRecDepth 16384

noncomputable section

namespace Cert.KernelIdeal.Value

open Cert.KernelIdeal Cert.KernelIdeal.Gen Idealize.ShloMosaic Idealize.ShloMosaic.TcCoe Idealize.SL.Sem Cert.Spline
open Cert.KernelIdeal.Prefix

/-- The parameters of one point, from the six arguments. -/
def pointParam (x : FVec Ideal S4x4096x32x3 .f32) (t : FVec Ideal S4x192 .f32) (w : FVec Ideal S194x64 .f32)
    (b : FVec Ideal S64 .f32) (w' : FVec Ideal S64x10 .f32) (b' : FVec Ideal S10 .f32)
    (i : Fin 4) (p : Fin 4096) (s : Fin 32) : Fin 10 → EReal :=
  param (fun c => x (ix4 i p s ⟨c.val, by omega⟩)) (fun k => t (ix2 i k)) (fun k o => w (ix2 k o)) (fun o => b (ix1 o))
    (fun o q => w' (ix2 o q)) (fun q => b' (ix1 q))

/-- The third coordinate of one point, mapped. -/
def pointValue (x : FVec Ideal S4x4096x32x3 .f32) (t : FVec Ideal S4x192 .f32) (w : FVec Ideal S194x64 .f32)
    (b : FVec Ideal S64 .f32) (w' : FVec Ideal S64x10 .f32) (b' : FVec Ideal S10 .f32)
    (i : Fin 4) (p : Fin 4096) (s : Fin 32) : EReal :=
  cascade (pointParam x t w b w' b' i p s) (x (ix4 i p s 2))

/-- The mapped coordinates of all points, each image's points in eight rows. -/
def mapped (x : FVec Ideal S4x4096x32x3 .f32) (t : FVec Ideal S4x192 .f32) (w : FVec Ideal S194x64 .f32)
    (b : FVec Ideal S64 .f32) (w' : FVec Ideal S64x10 .f32) (b' : FVec Ideal S10 .f32) : FVec Ideal S4x8x16384 .f32 :=
  fun j => pointValue x t w b w' b' (j 0)
    ⟨(j 1).val * 512 + (j 2).val / 32, by
      have h1 : (j 1).val < 8 := (j 1).isLt
      have h2 : (j 2).val < 16384 := (j 2).isLt
      omega⟩ ⟨(j 2).val % 32, by omega⟩

variable (m : (ℓ : Loc nD τ sig) → Buf (Elt Ideal) ℓ) (c : Dev nD)

/-- What the scratch column holds after a grid point: the time part of the hidden layer of the point's image. -/
def ScratchHolds (t : Fin cfg0.N) (s : Vec Ideal S512x1 .f32) : Prop :=
  ∀ i : Fin 512, s (ix2 i 0) =
    timePart (fun k => (m ((c : Thread nD τ).loc main_arg1) : Vec Ideal S4x192 .f32) (ix2 ⟨t.val / 2, by have := point_lt t; omega⟩ k))
      (fun k o => (m ((c : Thread nD τ).loc main_arg2) : Vec Ideal S194x64 .f32) (ix2 k o))
      (fun o => (m ((c : Thread nD τ).loc main_arg3) : Vec Ideal S64 .f32) (ix1 o)) ⟨i.val / 8, by omega⟩

/-- The column computed at a grid point holds the time part of the hidden layer of the point's image. -/
theorem computed_holds (t : Fin cfg0.N) :
    ScratchHolds m c t (k0_pay2 (F := Ideal) (iblk m c 2 t) (iblk m c 1 t) (iblk m c 3 t) (iblk m c 4 t)) := by
  intro i
  have h4 := iblk4_eq m c t
  exact (congrArg (fun e => k0_pay2 (F := Ideal) (iblk m c 2 t) (iblk m c 1 t) (iblk m c 3 t) e (ix2 i 0)) h4).trans
    (scratch_eq (m ((c : Thread nD τ).loc main_arg2)) _ _ _ _ _ (iblk2_eq m c t) (iblk1_eq m c t) (iblk3_eq m c t) i)

/-- The first point of an image leaves it there. -/
theorem scratch_first (t : Fin cfg0.N) (h : t.val % 2 = 0) : ScratchHolds m c t (outsAt0 m c t.val t.isLt).2 := by
  rw [outsAt0_A m c t h]; frame_out
  exact computed_holds m c t

/-- The second point of an image finds it there. -/
theorem scratch_before (t : Fin cfg0.N) (h : ¬ t.val % 2 = 0) :
    ScratchHolds m c t (outsAt0 m c (t.val - 1) (Nat.lt_of_le_of_lt (Nat.sub_le _ _) t.isLt)).2 := by
  have := scratch_first m c ⟨t.val - 1, Nat.lt_of_le_of_lt (Nat.sub_le _ _) t.isLt⟩ (by show (t.val - 1) % 2 = 0; omega)
  have e : (t.val - 1) / 2 = t.val / 2 := by omega
  intro i
  have hi := this i
  simp only [e] at hi
  exact hi

/-- What a block stores, over a scratch column that holds the time part: the mapped coordinates of its points. -/
theorem block_eq (t : Fin cfg0.N) (s : Vec Ideal S512x1 .f32) (hs : ScratchHolds m c t s) (r : Fin 8) (l : Fin 8192) :
    stored (iblk m c 0 t) (iblk m c 5 t) s (iblk m c 6 t) (iblk m c 7 t) (ix3 0 r l) =
      pointValue (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) ⟨t.val / 2, by have := point_lt t; omega⟩
        ⟨r.val * 512 + (t.val % 2 * 8192 + l.val) / 32, by omega⟩ ⟨(t.val % 2 * 8192 + l.val) % 32, by omega⟩ := by
  have e : stored (iblk m c 0 t) (iblk m c 5 t) s (iblk m c 6 t) (iblk m c 7 t) =
      stored (iblk m c 0 t) (spread1 (F := Ideal) (m ((c : Thread nD τ).loc main_arg2))) s
        (spread2 (F := Ideal) (m ((c : Thread nD τ).loc main_arg4))) (bias2 (F := Ideal) (m ((c : Thread nD τ).loc main_arg5))) := by
    exact congr (congr (congrArg (fun a => stored (iblk m c 0 t) a s) (iblk5_eq m c t)) (iblk6_eq m c t)) (iblk7_eq m c t)
  rw [e, stored_apply _ _ _ _ _ _ _ hs]
  simp only [iblk0_eq]
  rfl

/-- The same at an index of the block, placed in the result array. -/
theorem block_at (t : Fin cfg0.N) (s : Vec Ideal S512x1 .f32) (hs : ScratchHolds m c t s) (y : S1x8x8192.Idx) :
    stored (iblk m c 0 t) (iblk m c 5 t) s (iblk m c 6 t) (iblk m c 7 t) y =
      mapped (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (((View.whole main_v29).slice (win0_8.rect t)).emb y) := by
  have ht := point_lt t
  have e : ((View.whole main_v29).slice (win0_8.rect t)).emb y =
      (ix3 ⟨t.val / 2, by omega⟩ (y 1) ⟨t.val % 2 * 8192 + (y 2).val, by
        have h2 : (y 2).val < 8192 := (y 2).isLt
        omega⟩ : S4x8x16384.Idx) := by
    blk_ext [idx t]
  have hy : y = ix3 0 (y 1) (y 2) := by idx_ext
  rw [e]
  conv_lhs => rw [hy]
  exact block_eq m c t s hs (y 1) (y 2)

/-- The result array of the custom call: the mapped coordinates of all points. -/
theorem final : (dats m 0 c).arrAt 8 (cfgs 0).N =
    mapped (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) := by
  refine (dats m 0 c).arrAt_eq_of_covers 8 _ (by decide +kernel) fun t _ y => ?_
  blk_simp
  rw [after0_8]
  by_cases h : t.val % 2 = 0
  · rw [outsAt0_A m c t h]; frame_out
    exact block_at m c t _ (computed_holds m c t) y
  · rw [outsAt0_B m c t h]; frame_out
    simp only [read_unread_whole]
    exact block_at m c t _ (scratch_before m c t h) y

end Cert.KernelIdeal.Value

end
-- ==== Proof.KernelRun.lean ====
module

public import proofs.«01_k».proof.Proof.Array
public import Idealize.ShloMosaic.Lib.StableHlo.RunRead
public import Idealize.ShloMosaic.Lib.Claim

@[expose] public section

set_option maxRecDepth 16384

noncomputable section

namespace Cert.KernelIdeal.Value

open Cert.KernelIdeal Cert.KernelIdeal.Gen Idealize.ShloMosaic Idealize.ShloMosaic.TcCoe Idealize.SL.Sem

/-- The kernel's result: the points with the third channel replaced by the mapped coordinates. -/
def result (x : FVec Ideal S4x4096x32x3 .f32) (t : FVec Ideal S4x192 .f32) (w : FVec Ideal S194x64 .f32)
    (b : FVec Ideal S64 .f32) (w' : FVec Ideal S64x10 .f32) (b' : FVec Ideal S10 .f32) : FVec Ideal S4x4096x32x3 .f32 :=
  Host.scatter scatter_S4x4096x32x3_S1_S4x4096x32_012_3_3_0 (fun _ b => b) x
    (broadcastInDim S1 ![] bcast_S_S1 (constantI S_ 32 2#32))
    (shapeCast S4x4096x32 (mapped x t w b w' b') shapeCasts_S4x8x16384_S4x4096x32)

variable (m : (ℓ : Loc nD τ sig) → Buf (Elt Ideal) ℓ) (c : Dev nD)

/-- What the lines after the custom call leave in the result buffer. -/
theorem tail_eq : Pipeline.afterTail₀ cfgs (dats m) 0 (V0 m) [hostOps1] c main_v32 =
    result (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) := by
  have h8 := (Pipeline.withArrays_arr (cfgs 0).spec launch0.win.arr_inj c (V0 m c)
    (fun w => (dats m 0 c).arrAt w (cfgs 0).N) 8).trans (final m c)
  have h0 := (Pipeline.withArrays_of_ne (cfgs 0).spec c (V0 m c)
    (fun w => (dats m 0 c).arrAt w (cfgs 0).N) main_arg0 (by decide +kernel)).trans (V_main_arg0 m c)
  simp only [Pipeline.afterTail₀, hostOps1, List.flatten_cons, List.flatten_nil, List.append_nil]
  after_reads_simp
  rw [h0]
  have e : Pipeline.withArrays (cfgs 0).spec c (V0 m c) (fun w => (dats m 0 c).arrAt w (cfgs 0).N)
      (Proc.tc.devRef main_v29) = _ := h8
  rw [e]
  rfl

/-- Every run ends with the result buffer holding the result of the arguments, and the arguments as they were. -/
theorem run (ρ : Dev nD → PrngReg) : θ_run defs (onTc (τ := τ) (main (F := Ideal))) ⟨m, fun _ => 0, ρ⟩ (fun r => ∀ c : Dev nD,
    r.2.mem ((c.tc : Thread nD τ).loc main_v32) =
      result (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5))) := by
  refine (θ_run defs _ _).mono (fun r h c => ?_) (run_main m ρ)
  exact ((h c).2 main_v32 (by decide +kernel)).trans (tail_eq m c)

end Cert.KernelIdeal.Value

end
-- ==== Proof.RefParams.lean ====
module

public import proofs.«01_k».proof.Proof.RefStages
public import proofs.«01_k».proof.Proof.Spec
public import Idealize.ShloMosaic.Lib.Pointwise

@[expose] public section

set_option maxRecDepth 16384

noncomputable section

namespace Cert.ReferenceIdeal.Value

open Cert.ReferenceIdeal Cert.ReferenceIdeal.Gen Idealize.ShloMosaic Idealize.ShloMosaic.TcCoe Idealize.SL.Sem

/-- The joined features at a place: one of the first two, or one of the 192 after them. -/
theorem cat194_apply (a : FVec Ideal S4x4096x32x2 .f32) (b : FVec Ideal S4x4096x32x192 .f32)
    (i : Fin 4) (p : Fin 4096) (s : Fin 32) (k : Fin 194) :
    (Stage.cat194 (F := Ideal) a b (ix4 i p s k) : EReal) =
      if h : k.val < 2 then a (ix4 i p s ⟨k.val, h⟩) else b (ix4 i p s ⟨k.val - 2, by omega⟩) := by
  pointwise [Stage.cat194]

/-- The hidden layer of a point. -/
theorem hidden_apply (x : FVec Ideal S4x4096x32x3 .f32) (t : FVec Ideal S4x192 .f32) (w : FVec Ideal S194x64 .f32)
    (b : FVec Ideal S64 .f32) (i : Fin 4) (p : Fin 4096) (s : Fin 32) (o : Fin 64) :
    (Stage.hidden (F := Ideal) x t w b (ix4 i p s o) : EReal) =
      Spline.hidden (fun c => x (ix4 i p s ⟨c.val, by omega⟩)) (fun k => t (ix2 i k)) (fun k o => w (ix2 k o))
        (fun o => b (ix1 o)) o := by
  unfold Stage.hidden Spline.hidden Spline.feature
  pointwise [cat194_apply]

/-- The second layer of a point. -/
theorem raw_apply (h : FVec Ideal S4x4096x32x64 .f32) (w : FVec Ideal S64x10 .f32)
    (b : FVec Ideal S10 .f32) (i : Fin 4) (p : Fin 4096) (s : Fin 32) (q : Fin 10) :
    (Stage.raw (F := Ideal) h w b (ix4 i p s q) : EReal) =
      Spline.raw (fun o => h (ix4 i p s o)) (fun o q => w (ix2 o q)) (fun q => b (ix1 q)) q := by
  pointwise [Stage.raw, Spline.raw]

/-- The softplus of the second layer. -/
theorem params_apply (r : FVec Ideal S4x4096x32x10 .f32) (i : Fin 4) (p : Fin 4096) (s : Fin 32) (q : Fin 10) :
    (Stage.params (F := Ideal) r (ix4 i p s q) : EReal) = Spline.soft (r (ix4 i p s q)) := by
  pointwise [Stage.params, Spline.soft, Spline.eps]
  rw [if_neg (fun h => h rfl), Ideal.absf_def]

end Cert.ReferenceIdeal.Value

end
-- ==== Proof.RefKnots.lean ====
module

public import proofs.«01_k».proof.Proof.RefStages
public import proofs.«01_k».proof.Proof.Spec
public import Idealize.ShloMosaic.Lib.Pointwise

@[expose] public section

set_option maxRecDepth 16384

noncomputable section

namespace Cert.ReferenceIdeal.Value

open Cert.ReferenceIdeal Cert.ReferenceIdeal.Gen Idealize.ShloMosaic Idealize.ShloMosaic.TcCoe Idealize.SL.Sem

/-- The six joined columns at a place. -/
theorem cat6_apply (u0 u1 u2 u3 u4 u5 : FVec Ideal S4x4096x32x1 .f32) (i : Fin 4) (p : Fin 4096) (s : Fin 32) (k : Fin 6) :
    (Stage.cat6 (F := Ideal) u0 u1 u2 u3 u4 u5 (ix4 i p s k) : EReal) =
      (![u0 (ix4 i p s 0), u1 (ix4 i p s 0), u2 (ix4 i p s 0), u3 (ix4 i p s 0), u4 (ix4 i p s 0), u5 (ix4 i p s 0)] : Fin 6 → EReal) k := by
  fin_cases k <;> pointwise [Stage.cat6]

/-- The six abscissas of a point. -/
theorem knotsX_apply (r : FVec Ideal S4x4096x32x10 .f32) (i : Fin 4) (p : Fin 4096) (s : Fin 32) (k : Fin 6) :
    (Stage.knotsX (F := Ideal) r (ix4 i p s k) : EReal) = Spline.abscissa (fun q => r (ix4 i p s q)) k := by
  unfold Stage.knotsX Spline.abscissa
  rw [cat6_apply]
  pointwise [Spline.far]

/-- The six ordinates of a point. -/
theorem knotsY_apply (r : FVec Ideal S4x4096x32x10 .f32) (i : Fin 4) (p : Fin 4096) (s : Fin 32) (k : Fin 6) :
    (Stage.knotsY (F := Ideal) r (ix4 i p s k) : EReal) = Spline.ordinate (fun q => r (ix4 i p s q)) k := by
  unfold Stage.knotsY Spline.ordinate
  rw [cat6_apply]
  pointwise [Spline.far, Spline.two]

/-- The left end of a bin, in the flat order of the points. -/
theorem lefts_apply (a : FVec Ideal S4x4096x32x6 .f32) (i : Fin 4) (p : Fin 4096) (s : Fin 32) (k : Fin 5) :
    (Stage.lefts (F := Ideal) a (ix2 ⟨i.val * 131072 + p.val * 32 + s.val, by omega⟩ k) : EReal) =
      a (ix4 i p s k.castSucc) := by
  pointwise [Stage.lefts]
  rfl

/-- The right end of a bin, in the flat order of the points. -/
theorem rights_apply (a : FVec Ideal S4x4096x32x6 .f32) (i : Fin 4) (p : Fin 4096) (s : Fin 32) (k : Fin 5) :
    (Stage.rights (F := Ideal) a (ix2 ⟨i.val * 131072 + p.val * 32 + s.val, by omega⟩ k) : EReal) =
      a (ix4 i p s k.succ) := by
  pointwise [Stage.rights]
  exact congrArg (fun k => a (ix4 i p s k)) (Fin.ext (Nat.add_comm _ _))

/-- The coordinate that is mapped, in the flat order of the points. -/
theorem third_apply (x : FVec Ideal S4x4096x32x3 .f32) (i : Fin 4) (p : Fin 4096) (s : Fin 32) :
    (Stage.third (F := Ideal) x (ix2 ⟨i.val * 131072 + p.val * 32 + s.val, by omega⟩ 0) : EReal) =
      x (ix4 i p s 2) := by
  pointwise [Stage.third]

/-- The coordinate moved to its clipped value. -/
theorem clipped_apply (z : FVec Ideal S524288x1 .f32) (l r : FVec Ideal S524288x5 .f32) (n : Fin 524288) :
    (Stage.clipped (F := Ideal) z l r (ix2 n 0) : EReal) =
      z (ix2 n 0) + (min (r (ix2 n 4) * Spline.inner) (max (l (ix2 n 0) * Spline.inner) (z (ix2 n 0))) - z (ix2 n 0)) := by
  pointwise [Stage.clipped, Spline.inner]

/-- Whether a bin holds the coordinate. -/
theorem inBin_apply (q : FVec Ideal S524288x1 .f32) (l r : FVec Ideal S524288x5 .f32) (n : Fin 524288) (k : Fin 5) :
    Stage.inBin (F := Ideal) q l r (ix2 n k) =
      BitVec.ofBool (decide ((l (ix2 n k) : EReal) ≤ q (ix2 n 0) ∧ (q (ix2 n 0) : EReal) < r (ix2 n k))) := by
  pointwise [Stage.inBin]
  by_cases h1 : (l (ix2 n k) : EReal) ≤ q (ix2 n 0) <;> by_cases h2 : (q (ix2 n 0) : EReal) < r (ix2 n k) <;>
    simp [h1, h2, IntOp.andi]

/-- The line through the bin's two knots, point by point. -/
theorem value_apply (q : FVec Ideal S524288x1 .f32) (xr xl yr yl : FVec Ideal S524288 .f32) (i : Fin 4) (p : Fin 4096) (s : Fin 32)
    (n : Fin 524288) (hn : n.val = i.val * 131072 + p.val * 32 + s.val) :
    (Stage.value (F := Ideal) q xr xl yr yl (ix3 i p s) : EReal) =
      Ideal.div (yr (ix1 n) - yl (ix1 n)) (xr (ix1 n) - xl (ix1 n)) * (q (ix2 n 0) - xl (ix1 n)) + yl (ix1 n) := by
  obtain ⟨n, h⟩ := n
  subst hn
  pointwise [Stage.value]

end Cert.ReferenceIdeal.Value

end
-- ==== Proof.RefBin.lean ====
/-
  Which bin the reference names in each row.
-/
module

public import proofs.«01_k».proof.Proof.RefStages
public import proofs.«01_k».proof.Proof.Spec
public import Idealize.ShloMosaic.Lib.Pointwise

@[expose] public section

set_option maxRecDepth 16384

noncomputable section

namespace Cert.ReferenceIdeal.Value

open Cert.ReferenceIdeal Cert.ReferenceIdeal.Gen Idealize.ShloMosaic Idealize.ShloMosaic.TcCoe Idealize.SL.Sem

/-- The positions a row of five is folded over, in order: the row's own five. -/
theorem row_positions {N : Nat} (h : (⟨2, ![N, 5]⟩ : Shape).ReducesTo [1] ⟨1, ![N]⟩) (n : Fin N) :
    ((List.finRange (⟨2, ![N, 5]⟩ : Shape).numel).filter fun a => h.drop ((⟨2, ![N, 5]⟩ : Shape).rowMajor.symm a) = ix1 n)
      = (List.finRange 5).map fun k => (⟨2, ![N, 5]⟩ : Shape).rowMajor (ix2 n k) := by
  have hd : ∀ i, (h.drop i 0).val = (i 0).val := fun i => rfl
  refine List.Perm.eq_of_pairwise (le := (· < ·)) (fun _ _ _ _ hab hba => absurd hab hba.asymm)
    ((List.pairwise_lt_finRange _).filter _) ?_ ?_
  · rw [List.pairwise_map]
    refine (List.pairwise_lt_finRange 5).imp fun {a b} h => ?_
    rw [Fin.lt_def, Shape.rowMajor_val_two, Shape.rowMajor_val_two]
    show n.val * 5 + a.val < n.val * 5 + b.val
    have : a.val < b.val := h
    omega
  · refine (List.perm_ext_iff_of_nodup ((List.nodup_finRange _).filter _)
      ((List.nodup_finRange 5).map fun a b h => ?_)).mpr fun a => ?_
    · exact congrFun (Equiv.injective _ h) 1
    · rw [List.mem_filter, List.mem_map, decide_eq_true_eq]
      constructor
      · rintro ⟨-, ha⟩
        refine ⟨(⟨2, ![N, 5]⟩ : Shape).rowMajor.symm a 1, List.mem_finRange _, ?_⟩
        rw [← Equiv.eq_symm_apply]
        have h0 : (⟨2, ![N, 5]⟩ : Shape).rowMajor.symm a 0 = n :=
          Fin.ext ((hd _).symm.trans (congrArg Fin.val (congrFun ha 0)))
        funext b
        match b with
        | 0 => exact h0.symm
        | 1 => rfl
      · rintro ⟨k, -, rfl⟩
        refine ⟨List.mem_finRange _, ?_⟩
        rw [Equiv.symm_apply_apply]
        funext b
        match b with
        | 0 => exact Fin.ext (hd _)

/-- The pairs a row of five is folded over, in order: each of the row's entries with the entry of the second array. -/
theorem row_pairs {N : Nat} {α β : Type} (x : (⟨2, ![N, 5]⟩ : Shape).Idx → α) (y : (⟨2, ![N, 5]⟩ : Shape).Idx → β)
    (h : (⟨2, ![N, 5]⟩ : Shape).ReducesTo [1] ⟨1, ![N]⟩) (n : Fin N) :
    Host.argReduceFiber x y h (ix1 n) = (List.finRange 5).map fun k => (x (ix2 n k), y (ix2 n k)) := by
  rw [Host.argReduceFiber, row_positions, List.map_map]
  simp only [Function.comp_def, Equiv.symm_apply_apply]

/-- Folding the flags of a row with their places finds the first flag that is set, and the first place when none is. -/
theorem fold_first (f : Fin 5 → Bool) :
    (((List.finRange 5).map fun k => (BitVec.ofBool (f k), BitVec.ofNat 32 k.val)).foldl
      reducer_argmax_i1_i32 (0#1, 0#32)).2 = BitVec.ofNat 32 (Spline.firstOf f).val := by
  unfold Spline.firstOf
  have e : f = ![f 0, f 1, f 2, f 3, f 4] := by funext k; fin_cases k <;> rfl
  rw [e]
  generalize f 0 = a
  generalize f 1 = b
  generalize f 2 = c
  generalize f 3 = d
  generalize f 4 = g
  cases a <;> cases b <;> cases c <;> cases d <;> cases g <;> rfl

/-- Folding each row's flags with their places finds the row's first flag that is set. -/
theorem reduce_first {N : Nat} (x : IVec ⟨2, ![N, 5]⟩ 1) (y : IVec ⟨2, ![N, 5]⟩ 32) (a : IVec S_ 1) (b : IVec S_ 32)
    (h : (⟨2, ![N, 5]⟩ : Shape).ReducesTo [1] ⟨1, ![N]⟩) (hu : 0 < S_.numel) (n : Fin N) (f : Fin 5 → Bool)
    (hx : ∀ k, x (ix2 n k) = BitVec.ofBool (f k)) (hy : ∀ k, y (ix2 n k) = BitVec.ofNat 32 k.val)
    (ha : ∀ i, a i = 0#1) (hb : ∀ i, b i = 0#32) :
    (Host.reduce2 reducer_argmax_i1_i32 x y a b h hu (ix1 n)).2 = BitVec.ofNat 32 (Spline.firstOf f).val := by
  rw [Host.reduce2_eq_foldl_fiber, row_pairs, ha, hb]
  simp only [hx, hy]
  exact fold_first f

/-- The bins of all rows, as the second component of the fold of each row. -/
theorem bin_eq (r : IVec S524288x5 1) :
    Stage.bin (F := Ideal) r = Prod.snd ∘ Host.reduce2 reducer_argmax_i1_i32 r (iotaInDim S524288x5 32 1) (constantI S_ 1 0#1) (constantI S_ 32 0#32)
      reducesTo_S524288x5_S524288_d1 h_S_ := by
  delta Stage.bin Function.comp
  exact Eq.refl _

/-- The bin the reference names in a row: the first that holds the coordinate, and the first of all when none does. -/
theorem bin_apply (r : IVec S524288x5 1) (n : Fin 524288) (f : Fin 5 → Bool) (hr : ∀ k, r (ix2 n k) = BitVec.ofBool (f k)) :
    Stage.bin (F := Ideal) r (ix1 n) = BitVec.ofNat 32 (Spline.firstOf f).val := by
  rw [bin_eq, Function.comp_apply]
  exact reduce_first r (iotaInDim S524288x5 32 1) (constantI S_ 1 0#1) (constantI S_ 32 0#32) reducesTo_S524288x5_S524288_d1 h_S_ n f hr
    (fun _ => rfl) (fun _ => rfl) (fun _ => rfl)

end Cert.ReferenceIdeal.Value

end
-- ==== Proof.RefTake.lean ====
/-
  What the reference reads from a row at the bin it named.
-/
module

public import proofs.«01_k».proof.Proof.RefStages
public import Idealize.ShloMosaic.Lib.Pointwise

@[expose] public section

set_option maxRecDepth 16384

noncomputable section

namespace Cert.ReferenceIdeal.Value

open Cert.ReferenceIdeal Cert.ReferenceIdeal.Gen Idealize.ShloMosaic Idealize.ShloMosaic.TcCoe Idealize.SL.Sem

/-- The bins as the start positions of a gather, one word a row, a negative one counted from the row's end. -/
def starts (k : IVec S524288 32) : IVec S524288x1x1 32 :=
  shapeCast _ (select (cmpi .slt (broadcastInDim S524288x1 ![0] bcast_S524288_S524288x1_0 k) (broadcastInDim S524288x1 ![] bcast_S_S524288x1 (constantI S_ 32 0#32)))
    (addi (broadcastInDim S524288x1 ![0] bcast_S524288_S524288x1_0 k) (broadcastInDim S524288x1 ![] bcast_S_S524288x1 (constantI S_ 32 5#32)))
    (broadcastInDim S524288x1 ![0] bcast_S524288_S524288x1_0 k)) shapeCasts_S524288x1_S524288x1x1

/-- Whether a row's start position lies within the row. -/
def within (u : IVec S524288x1x1 32) : IVec S524288x1 1 :=
  Host.reduce IntOp.andi (andi (cmpi .sge u (broadcastInDim S524288x1x1 ![] bcast_S_S524288x1x1 (constantI S_ 32 0#32)))
    (cmpi .sle u (broadcastInDim S524288x1x1 ![0, 1, 2] bcast_S1x1x1_S524288x1x1_0_1_2 (broadcastInDim S1x1x1 ![2] bcast_S1_S1x1x1_2 (constantI S1 32 4#32)))))
    (constantI S_ 1 1#1) reducesTo_S524288x1x1_S524288x1_d2 h_S_

/-- A bin that is one of the five is its own start position. -/
theorem starts_apply (k : IVec S524288 32) (n : Fin 524288) (j : Fin 5) (hk : k (ix1 n) = BitVec.ofNat 32 j.val) (b : Fin 1) (c : Fin 1) :
    starts k (ix3 n b c) = BitVec.ofNat 32 j.val := by
  obtain rfl : b = 0 := Subsingleton.elim _ _
  obtain rfl : c = 0 := Subsingleton.elim _ _
  pointwise [starts]
  rw [hk]
  fin_cases j <;> rfl

/-- The last of the three axes is one that a reduction may drop. -/
theorem reduces_column : S524288x1x1.Reduces [2] S524288x1 := by decide

/-- Every start position of a row is the row's. -/
theorem start_of (u : IVec S524288x1x1 32) (n : Fin 524288) (j : Fin 5) (hu : ∀ b c, u (ix3 n b c) = BitVec.ofNat 32 j.val)
    (i : S524288x1x1.Idx) (h : i 0 = n) : u i = BitVec.ofNat 32 j.val := by
  subst h
  have e : i = ix3 (i 0) (i 1) (i 2) := funext fun b => match b with
    | 0 => rfl
    | 1 => rfl
    | 2 => rfl
  exact (congrArg u e).trans (hu (i 1) (i 2))

/-- A bin that is one of the five lies within its row. -/
theorem within_apply (u : IVec S524288x1x1 32) (n : Fin 524288) (j : Fin 5) (hu : ∀ b c, u (ix3 n b c) = BitVec.ofNat 32 j.val) :
    within u (ix2 n 0) = 1#1 := by
  unfold within
  rw [Host.reduce_eq_fold_single _ _ _ _ reduces_column _ _]
  refine (Finset.fold_singleton (op := IntOp.andi) (b := 1#1) (a := (0 : Fin 1))).trans ?_
  show IntOp.andi (IntOp.andi (IntOp.cmpi .sge (u _) 0#32) (IntOp.cmpi .sle (u _) 4#32)) 1#1 = 1#1
  rw [start_of u n j hu _ rfl]
  fin_cases j <;> decide

/-- The gather reads a row at its start position. -/
theorem gather_apply (a : FVec Ideal S524288x5 .f32) (u : IVec S524288x1x1 32) (n : Fin 524288) (j : Fin 5)
    (hu : ∀ b c, u (ix3 n b c) = BitVec.ofNat 32 j.val) :
    (Host.gather gather_S524288x5_S524288x1x1_S524288x1_n_1_0_0_1_2_11 a u (ix2 n 0) : EReal) = a (ix2 n j) := by
  refine congrArg a (funext fun b => Fin.ext ?_)
  match b with
  | 0 =>
    show 0 + n.val + 0 = n.val
    omega
  | 1 =>
    show min (u _).toInt.toNat 4 + 0 + 0 = j.val
    rw [start_of u n j hu _ rfl]
    fin_cases j <;> rfl

/-- Reading a row at the bin it named: the row's entry there. -/
theorem take_apply (a : FVec Ideal S524288x5 .f32) (k : IVec S524288 32) (n : Fin 524288) (j : Fin 5)
    (hk : k (ix1 n) = BitVec.ofNat 32 j.val) :
    (Stage.take (F := Ideal) a k (ix1 n) : EReal) = a (ix2 n j) := by
  show shapeCast S524288 (select (within (starts k)) (Host.gather gather_S524288x5_S524288x1x1_S524288x1_n_1_0_0_1_2_11 a (starts k))
    (broadcastInDim S524288x1 ![] bcast_S_S524288x1 (constant S_ .f32 0x7FC00000#32))) shapeCasts_S524288x1_S524288 (ix1 n) = a (ix2 n j)
  pointwise
  rw [within_apply _ n j (starts_apply k n j hk), gather_apply a _ n j (starts_apply k n j hk)]
  rfl

end Cert.ReferenceIdeal.Value

end
-- ==== Proof.RefValue.lean ====
/-
  The coordinate the reference computes for a point.
-/
module

public import proofs.«01_k».proof.Proof.RefRun
public import proofs.«01_k».proof.Proof.RefParams
public import proofs.«01_k».proof.Proof.RefKnots
public import proofs.«01_k».proof.Proof.RefBin
public import proofs.«01_k».proof.Proof.RefTake

@[expose] public section

set_option maxRecDepth 16384

noncomputable section

namespace Cert.ReferenceIdeal.Value

open Cert.ReferenceIdeal Cert.ReferenceIdeal.Gen Idealize.ShloMosaic Idealize.ShloMosaic.TcCoe Idealize.SL.Sem

/-- The mapped coordinates of all points, from the parameters and the points. -/
def coords (r : FVec Ideal S4x4096x32x10 .f32) (x : FVec Ideal S4x4096x32x3 .f32) : FVec Ideal S4x4096x32 .f32 :=
  let xl := Stage.lefts (F := Ideal) (Stage.knotsX r)
  let xr := Stage.rights (F := Ideal) (Stage.knotsX r)
  let q := Stage.clipped (F := Ideal) (Stage.third x) xl xr
  let k := Stage.bin (F := Ideal) (Stage.inBin q xl xr)
  Stage.value (F := Ideal) q (Stage.take xr k) (Stage.take xl k) (Stage.take (Stage.rights (Stage.knotsY r)) k) (Stage.take (Stage.lefts (Stage.knotsY r)) k)

/-- Reading the coordinates through the knots of the point: the bin is the first that holds the clipped coordinate, and the
    value lies on the line through that bin's knots. -/
theorem coords_apply (r : FVec Ideal S4x4096x32x10 .f32) (x : FVec Ideal S4x4096x32x3 .f32) (i : Fin 4) (p : Fin 4096) (s : Fin 32) :
    (coords r x (ix3 i p s) : EReal) = Spline.spline (fun q => r (ix4 i p s q)) (x (ix4 i p s 2)) := by
  have hz := third_apply x i p s
  have hxl := fun k => (lefts_apply (Stage.knotsX (F := Ideal) r) i p s k).trans (knotsX_apply r i p s _)
  have hxr := fun k => (rights_apply (Stage.knotsX (F := Ideal) r) i p s k).trans (knotsX_apply r i p s _)
  have hyl := fun k => (lefts_apply (Stage.knotsY (F := Ideal) r) i p s k).trans (knotsY_apply r i p s _)
  have hyr := fun k => (rights_apply (Stage.knotsY (F := Ideal) r) i p s k).trans (knotsY_apply r i p s _)
  unfold coords
  generalize hn : (⟨i.val * 131072 + p.val * 32 + s.val, by omega⟩ : Fin 524288) = n at *
  have hv : n.val = i.val * 131072 + p.val * 32 + s.val := by rw [← hn]
  clear hn
  generalize Stage.lefts (F := Ideal) (Stage.knotsX r) = xl at *
  generalize Stage.rights (F := Ideal) (Stage.knotsX r) = xr at *
  generalize Stage.lefts (F := Ideal) (Stage.knotsY r) = yl at *
  generalize Stage.rights (F := Ideal) (Stage.knotsY r) = yr at *
  generalize Stage.third (F := Ideal) x = z at *
  have hq := clipped_apply z xl xr n
  rw [hz, hxl, hxr] at hq
  generalize Stage.clipped (F := Ideal) z xl xr = q at *
  have hk := bin_apply _ n _ (inBin_apply q xl xr n)
  simp only [hq, hxl, hxr] at hk
  generalize Stage.bin (F := Ideal) (Stage.inBin q xl xr) = k at *
  show (Stage.value (F := Ideal) q _ _ _ _ (ix3 i p s) : EReal) = _
  rw [value_apply q _ _ _ _ i p s n hv, take_apply xr k n _ hk, take_apply xl k n _ hk, take_apply yr k n _ hk, take_apply yl k n _ hk,
    hxl, hxr, hyl, hyr, hq]
  rfl

end Cert.ReferenceIdeal.Value

end
-- ==== Proof.Channel.lean ====
/-
  Writing one value a point into a chosen channel, read at a place: the value in that channel, the point's own entry elsewhere.
-/
module

public import proofs.«01_k».proof.Proof.Spec
public import Idealize.ShloMosaic.Lib.Pointwise
public import Idealize.ShloMosaic.Lib.Routing.OpsSet

@[expose] public section

set_option maxRecDepth 16384

noncomputable section

namespace Cert.Channel

open Idealize.ShloMosaic Idealize.ShloMosaic.Routing

/-- Where a value lands: at its own point, in the channel the index word names. -/
theorem lands {A B C D : Nat} (d : ScatterDims ⟨4, ![A, B, C, D]⟩ ⟨1, ![1]⟩ ⟨3, ![A, B, C]⟩)
    (hw : d.updateWindowDims = [0, 1, 2]) (hi : d.insertedWindowDims = [3]) (hs : d.scatterDimsToOperandDims = [3])
    (hv : d.indexVectorDim = 0) (idx : IVec ⟨1, ![1]⟩ 32) (c : Fin D) (hc : ∀ j, (idx j).toInt = c.val)
    (k : (⟨3, ![A, B, C]⟩ : Shape).Idx) (a : Fin A) (b : Fin B) (s : Fin C) (e : Fin D) :
    d.resultIdx? k idx = some (ix4 a b s e) ↔ k = ix3 a b s ∧ e = c := by
  rw [resultIdx?_eq_some]
  obtain ⟨uw, iw, sd, iv, wf⟩ := d
  simp only at hw hi hs hv
  subst hw hi hs hv
  have e0 : (⟨[0, 1, 2], [3], [3], 0, wf⟩ : ScatterDims ⟨4, ![A, B, C, D]⟩ ⟨1, ![1]⟩ ⟨3, ![A, B, C]⟩).start k idx 0
      + ((⟨[0, 1, 2], [3], [3], 0, wf⟩ : ScatterDims ⟨4, ![A, B, C, D]⟩ ⟨1, ![1]⟩ ⟨3, ![A, B, C]⟩).window k 0 : Int) = 0 + ((k 0).val : Int) := rfl
  have e1 : (⟨[0, 1, 2], [3], [3], 0, wf⟩ : ScatterDims ⟨4, ![A, B, C, D]⟩ ⟨1, ![1]⟩ ⟨3, ![A, B, C]⟩).start k idx 1
      + ((⟨[0, 1, 2], [3], [3], 0, wf⟩ : ScatterDims ⟨4, ![A, B, C, D]⟩ ⟨1, ![1]⟩ ⟨3, ![A, B, C]⟩).window k 1 : Int) = 0 + ((k 1).val : Int) := rfl
  have e2 : (⟨[0, 1, 2], [3], [3], 0, wf⟩ : ScatterDims ⟨4, ![A, B, C, D]⟩ ⟨1, ![1]⟩ ⟨3, ![A, B, C]⟩).start k idx 2
      + ((⟨[0, 1, 2], [3], [3], 0, wf⟩ : ScatterDims ⟨4, ![A, B, C, D]⟩ ⟨1, ![1]⟩ ⟨3, ![A, B, C]⟩).window k 2 : Int) = 0 + ((k 2).val : Int) := rfl
  have e3 : (⟨[0, 1, 2], [3], [3], 0, wf⟩ : ScatterDims ⟨4, ![A, B, C, D]⟩ ⟨1, ![1]⟩ ⟨3, ![A, B, C]⟩).start k idx 3
      + ((⟨[0, 1, 2], [3], [3], 0, wf⟩ : ScatterDims ⟨4, ![A, B, C, D]⟩ ⟨1, ![1]⟩ ⟨3, ![A, B, C]⟩).window k 3 : Int) = c.val + (0 : Int) :=
    congrArg (· + (0 : Int)) (hc _)
  constructor
  · intro h
    have h0 := e0.symm.trans (h 0)
    have h1 := e1.symm.trans (h 1)
    have h2 := e2.symm.trans (h 2)
    have h3 := e3.symm.trans (h 3)
    rw [zero_add] at h0 h1 h2
    rw [add_zero] at h3
    refine ⟨funext fun q => ?_, Fin.ext (Int.ofNat.inj h3).symm⟩
    match q with
    | 0 => exact Fin.ext (Int.ofNat.inj h0)
    | 1 => exact Fin.ext (Int.ofNat.inj h1)
    | 2 => exact Fin.ext (Int.ofNat.inj h2)
  · rintro ⟨rfl, rfl⟩ q
    match q with
    | 0 => exact e0.trans (zero_add _)
    | 1 => exact e1.trans (zero_add _)
    | 2 => exact e2.trans (zero_add _)
    | 3 => exact e3.trans (add_zero _)

/-- Read at a place: the value in the named channel, the point's own entry in the others. -/
theorem scatter_apply {α : Type} {A B C D : Nat} (d : ScatterDims ⟨4, ![A, B, C, D]⟩ ⟨1, ![1]⟩ ⟨3, ![A, B, C]⟩)
    (hw : d.updateWindowDims = [0, 1, 2]) (hi : d.insertedWindowDims = [3]) (hs : d.scatterDimsToOperandDims = [3])
    (hv : d.indexVectorDim = 0) (idx : IVec ⟨1, ![1]⟩ 32) (c : Fin D) (hc : ∀ j, (idx j).toInt = c.val)
    (x : (⟨4, ![A, B, C, D]⟩ : Shape).Idx → α) (v : (⟨3, ![A, B, C]⟩ : Shape).Idx → α) (a : Fin A) (b : Fin B) (s : Fin C) (e : Fin D) :
    Host.scatter d (fun _ y => y) x idx v (ix4 a b s e) = if e = c then v (ix3 a b s) else x (ix4 a b s e) := by
  have key := fun k => lands d hw hi hs hv idx c hc k a b s e
  split
  · rename_i h
    exact scatter_set_hit d x idx v _ _ (fun k hk => congrArg v ((key k).mp hk).1) (ix3 a b s) ((key _).mpr ⟨rfl, h⟩)
  · rename_i h
    exact scatter_set_miss d x idx v _ (fun k hk => h ((key k).mp hk).2)

end Cert.Channel

end
-- ==== Proof.Interp.lean ====
module

public import proofs.«01_k».proof.Proof.Spec

@[expose] public section

noncomputable section

namespace Cert.Spline

open Idealize.ShloMosaic

/-- The constant of the softplus is a positive real. -/
theorem eps_pos : 0 < eps := by
  have h : eps = ((8589935 / 8589934592 : ℝ) : EReal) := by
    simp [eps, Ideal.ofBits, Ideal.ieee, -EReal.coe_mul]; norm_num
  rw [h]; exact EReal.coe_pos.mpr (by norm_num)

/-- The outer knots lie ten thousand beyond. -/
theorem far_eq : far = ((10000 : ℝ) : EReal) := by
  simp [far, Ideal.ofBits, Ideal.ieee, -EReal.coe_mul]; norm_num

/-- The clipping factor is a real between zero and one. -/
theorem inner_eq : inner = ((16609444 / 16777216 : ℝ) : EReal) := by
  simp [inner, Ideal.ofBits, Ideal.ieee, -EReal.coe_mul]; norm_num

/-- The exponential is not negative. -/
theorem exp_nonneg (x : EReal) : 0 ≤ Ideal.exp x := by
  induction x using EReal.rec with
  | bot => exact le_rfl
  | top => exact le_top
  | coe r => exact EReal.coe_nonneg.mpr (Real.exp_pos r).le

/-- The logarithm of one plus a number that is not negative is not negative. -/
theorem log1p_nonneg {x : EReal} (hx : 0 ≤ x) : 0 ≤ Ideal.log1p x := by
  induction x using EReal.rec with
  | bot => simp at hx
  | top =>
    rw [Ideal.log1p, EReal.add_top_of_ne_bot (show (1 : EReal) ≠ ⊥ from EReal.coe_ne_bot 1)]
    exact le_top
  | coe r =>
    have hr : 0 ≤ r := EReal.coe_nonneg.mp hx
    have h : Ideal.log1p (r : EReal) = Ideal.log ((1 + r : ℝ) : EReal) := by
      simp [Ideal.log1p]
    rw [h]
    show 0 ≤ (if 1 + r ≤ 0 then (⊥ : EReal) else (Real.log (1 + r) : EReal))
    rw [if_neg (by linarith)]
    exact EReal.coe_nonneg.mpr (Real.log_nonneg (by linarith))

/-- Every parameter is positive. -/
theorem soft_pos (r : EReal) : 0 < soft r := by
  have h : 0 ≤ max r 0 + Ideal.log1p (Ideal.exp (-max r (-r))) :=
    add_nonneg (le_max_right _ _) (log1p_nonneg (exp_nonneg _))
  exact lt_of_lt_of_le eps_pos (le_add_of_nonneg_left h)

/-- A number less one that is not negative is not above it. -/
theorem sub_le_of_nonneg {a b : EReal} (hb : 0 ≤ b) : a - b ≤ a := by
  rw [sub_eq_add_neg]
  calc a + -b ≤ a + 0 := add_le_add_right (by rwa [EReal.neg_le, neg_zero]) a
    _ = a := add_zero a

section Knots

variable (p : Fin 10 → EReal) (hp : ∀ i, 0 < p i)

include hp

/-- The first abscissa is not above the second. -/
theorem knot01 : abscissa p 0 ≤ abscissa p 1 := sub_le_of_nonneg (by rw [far_eq]; exact EReal.coe_nonneg.mpr (by norm_num))
/-- The second abscissa is not above the third. -/
theorem knot12 : abscissa p 1 ≤ abscissa p 2 := sub_le_of_nonneg (hp 0).le
/-- The third abscissa is negative. -/
theorem knot2 : abscissa p 2 < 0 := by
  show -p 1 < 0
  rw [EReal.neg_lt_comm, neg_zero]; exact hp 1
/-- The fourth abscissa is positive. -/
theorem knot3 : 0 < abscissa p 3 := hp 2
/-- The fourth abscissa is not above the fifth. -/
theorem knot34 : abscissa p 3 ≤ abscissa p 4 := le_add_of_nonneg_right (hp 3).le
/-- The fifth abscissa is not above the sixth. -/
theorem knot45 : abscissa p 4 ≤ abscissa p 5 :=
  le_add_of_nonneg_right (by rw [far_eq]; exact EReal.coe_nonneg.mpr (by norm_num))

/-- The first abscissa is negative. -/
theorem knot0 : abscissa p 0 < 0 := ((knot01 p hp).trans (knot12 p hp)).trans_lt (knot2 p hp)
/-- The last abscissa is positive. -/
theorem knot5 : 0 < abscissa p 5 := (knot3 p hp).trans_le ((knot34 p hp).trans (knot45 p hp))

end Knots

/-- A negative number times the clipping factor is not below it, and not positive. -/
theorem inner_neg {a : EReal} (ha : a < 0) : a ≤ a * inner ∧ a * inner ≤ 0 := by
  rw [inner_eq]
  induction a using EReal.rec with
  | bot => rw [EReal.bot_mul_coe_of_pos (by norm_num)]; simp
  | top => simp at ha
  | coe r =>
    have hr : r < 0 := EReal.coe_neg'.mp ha
    rw [← EReal.coe_mul]
    exact ⟨EReal.coe_le_coe_iff.mpr (by nlinarith), EReal.coe_nonpos.mpr (by nlinarith)⟩

/-- A positive number times the clipping factor is not negative, and below it unless it is infinite. -/
theorem inner_pos {a : EReal} (ha : 0 < a) : 0 ≤ a * inner ∧ (a < ⊤ → a * inner < a) := by
  rw [inner_eq]
  induction a using EReal.rec with
  | bot => simp at ha
  | top => rw [EReal.top_mul_coe_of_pos (by norm_num)]; simp
  | coe r =>
    have hr : 0 < r := EReal.coe_pos.mp ha
    rw [← EReal.coe_mul]
    exact ⟨EReal.coe_nonneg.mpr (by positivity), fun _ => EReal.coe_lt_coe_iff.mpr (by nlinarith)⟩

/-- A finite coordinate, clipped, is finite. -/
theorem clip_finite (p : Fin 10 → EReal) (hp : ∀ i, 0 < p i) {z : EReal} (hb : z ≠ ⊥) (ht : z ≠ ⊤) :
    clip (abscissa p) z ≠ ⊥ ∧ clip (abscissa p) z ≠ ⊤ := by
  have h0 := (inner_neg (knot0 p hp)).2
  have h5 := (inner_pos (knot5 p hp)).1
  constructor
  · apply ne_of_gt
    refine lt_min (lt_of_lt_of_le EReal.bot_lt_zero h5) (lt_max_of_lt_right (bot_lt_iff_ne_bot.mpr hb))
  · apply ne_of_lt
    exact min_lt_of_right_lt (max_lt (lt_of_le_of_lt h0 EReal.zero_lt_top) (lt_top_iff_ne_top.mpr ht))

/-- Moving a finite coordinate to its clipped value gives the clipped value. -/
theorem moved (p : Fin 10 → EReal) (hp : ∀ i, 0 < p i) {z : EReal} (hb : z ≠ ⊥) (ht : z ≠ ⊤) :
    z + (clip (abscissa p) z - z) = clip (abscissa p) z := by
  obtain ⟨h1, h2⟩ := clip_finite p hp hb ht
  generalize clip (abscissa p) z = q at h1 h2
  lift z to ℝ using ⟨ht, hb⟩
  lift q to ℝ using ⟨h2, h1⟩
  rw [← EReal.coe_sub, ← EReal.coe_add]
  congr 1; ring

/-- The clipped coordinate lies between the outermost abscissas. -/
theorem clip_range (p : Fin 10 → EReal) (hp : ∀ i, 0 < p i) {z : EReal} (hb : z ≠ ⊥) (ht : z ≠ ⊤) :
    abscissa p 0 ≤ clip (abscissa p) z ∧ clip (abscissa p) z < abscissa p 5 := by
  have h0 := inner_neg (knot0 p hp)
  have h5 := inner_pos (knot5 p hp)
  refine ⟨le_min (((knot0 p hp).le).trans h5.1) (h0.1.trans (le_max_left _ _)), ?_⟩
  by_cases h : abscissa p 5 < ⊤
  · exact lt_of_le_of_lt (min_le_left _ _) (h5.2 h)
  · rw [not_lt_top_iff.mp h]
    exact lt_top_iff_ne_top.mpr (clip_finite p hp hb ht).2

/-- Where the abscissas rise and `q` lies between the outermost, the first bin that holds `q` is the last it reaches. -/
theorem firstBin_eq (u : Fin 6 → EReal) (q : EReal) (h01 : u 0 ≤ u 1) (h12 : u 1 ≤ u 2) (h23 : u 2 ≤ u 3)
    (h34 : u 3 ≤ u 4) (h0 : u 0 ≤ q) (h5 : q < u 5) : firstBin u q = lastBin u q := by
  have e : firstBin u q = if u 0 ≤ q ∧ q < u 1 then 0 else if u 1 ≤ q ∧ q < u 2 then 1 else
      if u 2 ≤ q ∧ q < u 3 then 2 else if u 3 ≤ q ∧ q < u 4 then 3 else if u 4 ≤ q ∧ q < u 5 then 4 else 0 := by
    simp only [firstBin, firstOf, decide_eq_true_eq]; rfl
  rw [e, lastBin]
  by_cases h4 : u 4 ≤ q
  · have h3 := h34.trans h4
    have h2 := h23.trans h3
    have h1 := h12.trans h2
    simp [h0, h1, h2, h3, h4, h5, not_lt.mpr]
  by_cases h3 : u 3 ≤ q
  · have h2 := h23.trans h3
    have h1 := h12.trans h2
    simp [h0, h1, h2, h3, h4, not_lt.mpr, not_le.mp h4]
  by_cases h2 : u 2 ≤ q
  · have h1 := h12.trans h2
    simp [h0, h1, h2, h3, h4, not_lt.mpr, not_le.mp h3]
  by_cases h1 : u 1 ≤ q
  · simp [h0, h1, h2, h3, h4, not_lt.mpr, not_le.mp h2]
  · simp [h0, h1, h2, h3, h4, not_le.mp h1]

/-- At a finite coordinate the two ways of finding the bin give the same value. -/
theorem spline_eq_cascade (p : Fin 10 → EReal) (hp : ∀ i, 0 < p i) {z : EReal} (hb : z ≠ ⊥) (ht : z ≠ ⊤) :
    spline p z = cascade p z := by
  have r := clip_range p hp hb ht
  unfold spline cascade
  simp only
  rw [moved p hp hb ht, firstBin_eq _ _ (knot01 p hp) (knot12 p hp) ((knot2 p hp).trans (knot3 p hp)).le
    (knot34 p hp) r.1 r.2]

end Cert.Spline

end
-- ==== Proof.Equation.lean ====
/-
  The kernel's result is the reference's, wherever the third channel of every point is finite.
-/
module

public import proofs.«01_k».proof.Proof.KernelRun
public import proofs.«01_k».proof.Proof.RefValue
public import proofs.«01_k».proof.Proof.Channel
public import proofs.«01_k».proof.Proof.Interp

@[expose] public section

set_option maxRecDepth 16384

noncomputable section

namespace Cert.Equation

open Idealize.ShloMosaic Cert.KernelIdeal.Value

/-- The mapped coordinates of the kernel, in the order of the points. -/
theorem mapped_apply (x : FVec Ideal KernelIdeal.S4x4096x32x3 .f32) (t : FVec Ideal KernelIdeal.S4x192 .f32) (w : FVec Ideal KernelIdeal.S194x64 .f32)
    (b : FVec Ideal KernelIdeal.S64 .f32) (w' : FVec Ideal KernelIdeal.S64x10 .f32) (b' : FVec Ideal KernelIdeal.S10 .f32)
    (i : Fin 4) (p : Fin 4096) (s : Fin 32) :
    (shapeCast KernelIdeal.S4x4096x32 (mapped x t w b w' b') KernelIdeal.Gen.shapeCasts_S4x8x16384_S4x4096x32 (ix3 i p s) : EReal) =
      pointValue x t w b w' b' i p s := by
  pointwise [mapped]
  have hp : (⟨p.val / 512 * 512 + (p.val % 512 * 32 + s.val) / 32, by omega⟩ : Fin 4096) = p := Fin.ext (by
    show p.val / 512 * 512 + (p.val % 512 * 32 + s.val) / 32 = p.val
    omega)
  have hs : (⟨(p.val % 512 * 32 + s.val) % 32, by omega⟩ : Fin 32) = s := Fin.ext (by
    show (p.val % 512 * 32 + s.val) % 32 = s.val
    omega)
  rw [hp, hs]

/-- The kernel's result at a place. -/
theorem kernel_apply (x : FVec Ideal KernelIdeal.S4x4096x32x3 .f32) (t : FVec Ideal KernelIdeal.S4x192 .f32) (w : FVec Ideal KernelIdeal.S194x64 .f32)
    (b : FVec Ideal KernelIdeal.S64 .f32) (w' : FVec Ideal KernelIdeal.S64x10 .f32) (b' : FVec Ideal KernelIdeal.S10 .f32)
    (i : Fin 4) (p : Fin 4096) (s : Fin 32) (e : Fin 3) :
    (KernelIdeal.Value.result x t w b w' b' (ix4 i p s e) : EReal) =
      if e = 2 then pointValue x t w b w' b' i p s else x (ix4 i p s e) := by
  unfold KernelIdeal.Value.result
  rw [Channel.scatter_apply _ rfl rfl rfl rfl _ (2 : Fin 3) (fun _ => rfl), mapped_apply]

/-- The word of one is one. -/
theorem word_one : Ideal.ofBits FTy.f32 0x3F800000#32 = 1 := by
  simp [Ideal.ofBits, Ideal.ieee, -EReal.coe_mul]
  norm_num

/-- The reference's result, as its mapped coordinates written into the masked input. -/
theorem reference_apply (x : FVec Ideal ReferenceIdeal.S4x4096x32x3 .f32) (v : FVec Ideal ReferenceIdeal.S4x4096x32 .f32)
    (i : Fin 4) (p : Fin 4096) (s : Fin 32) (e : Fin 3) :
    (ReferenceIdeal.Stage.assemble (F := Ideal) x (ReferenceIdeal.Stage.mask (F := Ideal)) v (ix4 i p s e) : EReal) =
      if e = 2 then v (ix3 i p s) else x (ix4 i p s e) := by
  unfold ReferenceIdeal.Stage.assemble
  rw [Channel.scatter_apply _ rfl rfl rfl rfl _ (2 : Fin 3) (fun _ => rfl)]
  fin_cases e
  · pointwise [ReferenceIdeal.Stage.mask]
    rw [show ReferenceIdeal.lit0 (ReferenceIdeal.S3.rowMajor (ix1 0)) = 0x3F800000#32 from rfl, word_one, mul_one]
  · pointwise [ReferenceIdeal.Stage.mask]
    rw [show ReferenceIdeal.lit0 (ReferenceIdeal.S3.rowMajor (ix1 1)) = 0x3F800000#32 from rfl, word_one, mul_one]
  · rfl

/-- The reference's parameters of a point are the kernel's. -/
theorem params_eq (x : FVec Ideal KernelIdeal.S4x4096x32x3 .f32) (t : FVec Ideal KernelIdeal.S4x192 .f32) (w : FVec Ideal KernelIdeal.S194x64 .f32)
    (b : FVec Ideal KernelIdeal.S64 .f32) (w' : FVec Ideal KernelIdeal.S64x10 .f32) (b' : FVec Ideal KernelIdeal.S10 .f32)
    (i : Fin 4) (p : Fin 4096) (s : Fin 32) (q : Fin 10) :
    (ReferenceIdeal.Stage.params (F := Ideal) (ReferenceIdeal.Stage.raw (ReferenceIdeal.Stage.hidden x t w b) w' b') (ix4 i p s q) : EReal) =
      pointParam x t w b w' b' i p s q := by
  rw [ReferenceIdeal.Value.params_apply, ReferenceIdeal.Value.raw_apply]
  simp only [ReferenceIdeal.Value.hidden_apply]
  rfl

/-- The two results are equal when the third channel of every point is finite. -/
theorem result_eq (x : FVec Ideal KernelIdeal.S4x4096x32x3 .f32) (t : FVec Ideal KernelIdeal.S4x192 .f32) (w : FVec Ideal KernelIdeal.S194x64 .f32)
    (b : FVec Ideal KernelIdeal.S64 .f32) (w' : FVec Ideal KernelIdeal.S64x10 .f32) (b' : FVec Ideal KernelIdeal.S10 .f32)
    (hx : ∀ i p s, (x (ix4 i p s 2) : EReal) ≠ ⊥ ∧ (x (ix4 i p s 2) : EReal) ≠ ⊤) :
    ReferenceIdeal.Stage.result (F := Ideal) x t w b w' b' = KernelIdeal.Value.result x t w b w' b' := by
  funext j
  obtain ⟨i, p, s, e, rfl⟩ : ∃ (i : Fin 4) (p : Fin 4096) (s : Fin 32) (e : Fin 3), j = ix4 i p s e :=
    ⟨j 0, j 1, j 2, j 3, funext fun b => match b with
      | 0 => rfl
      | 1 => rfl
      | 2 => rfl
      | 3 => rfl⟩
  refine Eq.trans ?_ (kernel_apply x t w b w' b' i p s e).symm
  refine (reference_apply x (ReferenceIdeal.Value.coords (ReferenceIdeal.Stage.params (F := Ideal)
    (ReferenceIdeal.Stage.raw (ReferenceIdeal.Stage.hidden x t w b) w' b')) x) i p s e).trans ?_
  rw [ReferenceIdeal.Value.coords_apply]
  simp only [params_eq]
  have hp : ∀ q, 0 < pointParam x t w b w' b' i p s q := fun q => Spline.soft_pos _
  rw [show (Spline.spline (fun q => pointParam x t w b w' b' i p s q) (x (ix4 i p s 2))) = pointValue x t w b w' b' i p s from
    Spline.spline_eq_cascade _ hp (hx i p s).1 (hx i p s).2]

end Cert.Equation

end
-- ==== Proof.Finite.lean ====
/-
  What the precondition says: the third channel of every point is finite.
-/
module

public import proofs.«01_k».proof.Pre_finite_points
public import Idealize.ShloMosaic.Lib.Pointwise
public import Idealize.ShloMosaic.Lib.ReduceAll
public import Idealize.ShloMosaic.PureOps.Ideal.Laws

@[expose] public section

set_option maxRecDepth 16384

noncomputable section

namespace Cert.Pre_finite_points

open Idealize.ShloMosaic

/-- The shape conditions of the precondition hold. -/
theorem facts : Facts where
  slices_S4x4096x32x3_S4x4096x32x1_0_0_0_2 := by decide
  shapeCasts_S4x4096x32x1_S4x4096x32 := by decide
  bcast_S_S4x4096x32 := by decide
  reducesTo_S4x4096x32_S_d0_1_2 := by decide
  h_S_ := by decide

/-- An array of no axes has one place. -/
instance : Subsingleton S_.Idx := ⟨fun _ _ => funext fun a => a.elim0⟩

/-- An extended real whose absolute value is below infinity is finite. -/
theorem finite_of_abs (z : EReal) (h : max z (-z) < ⊤) : z ≠ ⊥ ∧ z ≠ ⊤ := by
  constructor
  · rintro rfl
    simp at h
  · rintro rfl
    simp at h

/-- The word of infinity is infinity. -/
theorem word_inf : Ideal.ofBits FTy.f32 0x7F800000#32 = ⊤ := by
  simp [Ideal.ofBits, Ideal.ieee]

/-- When the precondition holds, the third channel of every point is finite. -/
theorem finite_third [Facts] (x : FVec Ideal S4x4096x32x3 .f32) (t : FVec Ideal S4x192 .f32) (w : FVec Ideal S194x64 .f32)
    (b : FVec Ideal S64 .f32) (w' : FVec Ideal S64x10 .f32) (b' : FVec Ideal S10 .f32)
    (h : fn (F := Ideal) x t w b w' b' = fun _ => 1#1) (i : Fin 4) (p : Fin 4096) (s : Fin 32) :
    (x (ix4 i p s 2) : EReal) ≠ ⊥ ∧ (x (ix4 i p s 2) : EReal) ≠ ⊤ := by
  have k := Host.reduce_andi_all _ _ _ _ _ (congrFun h (fun a => a.elim0)) (ix3 i p s)
  refine finite_of_abs _ ?_
  revert k
  pointwise
  rw [word_inf, Ideal.absf_def]
  intro k
  by_contra hc
  simp [hc] at k

end Cert.Pre_finite_points

end
-- ==== Proof.Values.lean ====
/-
  The value claim: from memories that agree on the arguments the kernel and the reference end with equal results.
-/
module

public import proofs.«01_k».proof.Defs
public import proofs.«01_k».proof.Proof.Equation
public import proofs.«01_k».proof.Proof.Finite
public import proofs.«01_k».proof.Proof.Gen.KernelIdeal.Frame
public import Idealize.ShloMosaic.Lib.Claim

@[expose] public section

set_option maxRecDepth 16384

noncomputable section

namespace Cert.Equation

open Idealize.ShloMosaic Idealize.ShloMosaic.TcCoe Idealize.SL.Sem

/-- At the ideal instance, when the third channel of every point is finite, the kernel and the reference both run, leave
    their arguments as they were and end with equal results. -/
theorem algebraic : Cert.algebraic_KernelIdeal_ReferenceIdeal_pre_finite_points (hKernelIdeal := Cert.KernelIdeal.Gen.facts)
    (hReferenceIdeal := Cert.ReferenceIdeal.Gen.facts) (hPre_finite_points := Cert.Pre_finite_points.facts) := by
  intro m g m' g' hpre hagree
  refine ⟨fun c => KernelIdeal.Value.result (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5)), ?_, ?_⟩
  · run_from KernelIdeal.Value.run m g & Cert.KernelIdeal.Gen.frame m g
  · refine (θ_run Cert.ReferenceIdeal.defs _ _).mono (fun r h c => ⟨(h c).1.trans ?_, (h c).2⟩) (Cert.ReferenceIdeal.Stage.run (F := Ideal) m' g')
    obtain ⟨h0, h1, h2, h3, h4, h5⟩ := hagree c
    rw [h0, h1, h2, h3, h4, h5]
    exact result_eq _ _ _ _ _ _ (@Pre_finite_points.finite_third Pre_finite_points.facts _ _ _ _ _ _ (hpre c))

end Cert.Equation

end
-- ==== Proof.lean ====
/- The certificate: the runs of the kernel, its idealization and the reference, and the equality of their results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.RefRun
public import proofs.«01_k».proof.Proof.Values
public import Idealize.ShloMosaic.Adequacy
public import Idealize.ShloMosaic.Init
public import Idealize.ShloMosaic.Lib.Quiescent

@[expose] public section

noncomputable section

namespace Cert.Proof

open Idealize.ShloMosaic Idealize.SL.Sem

/-- The reference runs, keeps its arguments and ends with every counter at zero: it has no counters. -/
theorem referenceFrame : Cert.quiescent_ReferenceIdeal (hReferenceIdeal := Cert.ReferenceIdeal.Gen.facts) := by
  intro m g _
  refine (θ_run Cert.ReferenceIdeal.defs _ _).mono (fun r h => ⟨fun c => (h c).2, ?_⟩)
    (Cert.ReferenceIdeal.Stage.run (F := Ideal) m g)
  exact sem_eq_zero_of_no_sems rfl r.2

/-- Everything the certificate claims. -/
theorem claim : Cert.Claim := ⟨Cert.Kernel.Gen.facts, Cert.KernelIdeal.Gen.facts, Cert.ReferenceIdeal.Gen.facts, Cert.Pre_finite_points.facts,
  fun m ρ _ => Cert.Kernel.Gen.frame m ρ, fun m ρ _ => Cert.KernelIdeal.Gen.frame m ρ, fun m ρ _ => Cert.KernelIdeal.Gen.frame m ρ,
  referenceFrame, fun m ρ _ => referenceFrame m ρ trivial, trivial, Cert.Equation.algebraic⟩

end Cert.Proof

end
